-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v68) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32768x1024 : Shape := ⟨2, ![32768, 1024]⟩
abbrev S1x1024 : Shape := ⟨2, ![1, 1024]⟩
abbrev S1024x7680 : Shape := ⟨2, ![1024, 7680]⟩
abbrev S3x1024 : Shape := ⟨2, ![3, 1024]⟩
abbrev S32768x512 : Shape := ⟨2, ![32768, 512]⟩
abbrev S32768x128 : Shape := ⟨2, ![32768, 128]⟩
abbrev S512x1024 : Shape := ⟨2, ![512, 1024]⟩
abbrev S8x1024 : Shape := ⟨2, ![8, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S8 : Shape := ⟨1, ![8]⟩
abbrev S8x1 : Shape := ⟨2, ![8, 1]⟩
abbrev S16x1024 : Shape := ⟨2, ![16, 1024]⟩
abbrev S528x1024 : Shape := ⟨2, ![528, 1024]⟩
abbrev S1024x1024 : Shape := ⟨2, ![1024, 1024]⟩
abbrev S1024x512 : Shape := ⟨2, ![1024, 512]⟩
abbrev S1x128 : Shape := ⟨2, ![1, 128]⟩
abbrev S1024x128 : Shape := ⟨2, ![1024, 128]⟩

abbrev nBuf : Space → Nat
  | .hbm => 11
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x7680, .bf16⟩
  | .hbm, ⟨3, _⟩ => ⟨S3x1024, .f32⟩
  | .hbm, ⟨4, _⟩ => ⟨S1x1024, .f32⟩
  | .hbm, ⟨5, _⟩ => ⟨S32768x512, .bf16⟩
  | .hbm, ⟨6, _⟩ => ⟨S32768x512, .bf16⟩
  | .hbm, ⟨7, _⟩ => ⟨S32768x1024, .bf16⟩
  | .hbm, ⟨8, _⟩ => ⟨S32768x1024, .bf16⟩
  | .hbm, ⟨9, _⟩ => ⟨S32768x1024, .bf16⟩
  | .hbm, ⟨10, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x7680, .bf16⟩
  | .local _ .vmem, ⟨8, _⟩ => ⟨S3x1024, .f32⟩
  | .local _ .vmem, ⟨9, _⟩ => ⟨S1x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32768x1024 : Shape := ⟨2, ![32768, 1024]⟩
abbrev S1x1024 : Shape := ⟨2, ![1, 1024]⟩
abbrev S1024x7680 : Shape := ⟨2, ![1024, 7680]⟩
abbrev S3x1024 : Shape := ⟨2, ![3, 1024]⟩
abbrev S_ : Shape := ⟨0, ![]⟩
abbrev S32768 : Shape := ⟨1, ![32768]⟩
abbrev S32768x1 : Shape := ⟨2, ![32768, 1]⟩
abbrev S32768x7680 : Shape := ⟨2, ![32768, 7680]⟩
abbrev S32768x512 : Shape := ⟨2, ![32768, 512]⟩
abbrev S32768x128 : Shape := ⟨2, ![32768, 128]⟩
abbrev S8x4096x1024 : Shape := ⟨3, ![8, 4096, 1024]⟩
abbrev S8x4098x1024 : Shape := ⟨3, ![8, 4098, 1024]⟩
abbrev S1024 : Shape := ⟨1, ![1024]⟩
abbrev S1x1x1024 : Shape := ⟨3, ![1, 1, 1024]⟩
abbrev S32 : Shape := ⟨1, ![32]⟩
abbrev S2 : Shape := ⟨1, ![2]⟩
abbrev S94 : Shape := ⟨1, ![94]⟩
abbrev S128 : Shape := ⟨1, ![128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x7680, .bf16⟩
  | .hbm, ⟨3, _⟩ => ⟨S3x1024, .f32⟩
  | .hbm, ⟨4, _⟩ => ⟨S1x1024, .f32⟩
  | .hbm, ⟨5, _⟩ => ⟨S1024x7680, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x7680, .f32⟩
  | .hbm, ⟨22, _⟩ => ⟨S32768x512, .f32⟩
  | .hbm, ⟨23, _⟩ => ⟨S32768x512, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x128, .f32⟩
  | .hbm, ⟨31, _⟩ => ⟨S32768x1024, .f32⟩
  | .hbm, ⟨32, _⟩ => ⟨S8x4096x1024, .f32⟩
  | .hbm, ⟨33, _⟩ => ⟨S_, .i32⟩
  | .hbm, ⟨34, _⟩ => ⟨S_, .f32⟩
  | .hbm, ⟨35, _⟩ => ⟨S8x4098x1024, .f32⟩
  | .hbm, ⟨36, _⟩ => ⟨S1x1024, .f32⟩
  | .hbm, ⟨37, _⟩ => ⟨S1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1x1024, .f32⟩
  | .hbm, ⟨43, _⟩ => ⟨S1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S1x1024, .f32⟩
  | .hbm, ⟨50, _⟩ => ⟨S1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32, .f32⟩
  | .hbm, ⟨74, _⟩ => ⟨S_, .f32⟩
  | .hbm, ⟨75, _⟩ => ⟨S2, .f32⟩
  | .hbm, ⟨76, _⟩ => ⟨S_, .f32⟩
  | .hbm, ⟨77, _⟩ => ⟨S94, .f32⟩
  | .hbm, ⟨78, _⟩ => ⟨S128, .f32⟩
  | .hbm, ⟨79, _⟩ => ⟨S_, .f32⟩
  | .hbm, ⟨80, _⟩ => ⟨S32768x512, .f32⟩
  | .hbm, ⟨81, _⟩ => ⟨S32768x512, .f32⟩
  | .hbm, ⟨82, _⟩ => ⟨S32768x512, .bf16⟩
  | .hbm, ⟨83, _⟩ => ⟨S32768x512, .bf16⟩
  | .hbm, ⟨84, _⟩ => ⟨S32768x1024, .bf16⟩
  | .hbm, ⟨85, _⟩ => ⟨S32768x1024, .f32⟩
  | .hbm, ⟨86, _⟩ => ⟨S32768x1024, .f32⟩
  | .hbm, ⟨87, _⟩ => ⟨S_, .f32⟩
  | .hbm, ⟨88, _⟩ => ⟨S32768x1024, .f32⟩
  | .hbm, ⟨89, _⟩ => ⟨S32768x1024, .f32⟩
  | .hbm, ⟨90, _⟩ => ⟨S_, .f32⟩
  | .hbm, ⟨91, _⟩ => ⟨S32768x1024, .f32⟩
  | .hbm, ⟨92, _⟩ => ⟨S32768x1024, .f32⟩
  | .hbm, ⟨93, _⟩ => ⟨S32768x1024, .f32⟩
  | .hbm, ⟨94, _⟩ => ⟨S32768x1024, .bf16⟩
  | .hbm, ⟨95, _⟩ => ⟨S32768x1024, .bf16⟩
  | .hbm, ⟨96, _⟩ => ⟨S1x128, .f32⟩
  | .hbm, ⟨97, _⟩ => ⟨S32768x128, .f32⟩
  | .hbm, ⟨98, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v52 : Ref sig .tc := ⟨.hbm, 70, rfl⟩
abbrev main_v53 : Ref sig .tc := ⟨.hbm, 71, rfl⟩
abbrev main_cst_2 : Ref sig .tc := ⟨.hbm, 72, rfl⟩
abbrev main_v54 : Ref sig .tc := ⟨.hbm, 73, rfl⟩
abbrev main_cst_3 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Kernel2.lean ====
abbrev S1x1024x7200 : Shape := ⟨3, ![1, 1024, 7200]⟩
abbrev S1x7200x1024 : Shape := ⟨3, ![1, 7200, 1024]⟩
abbrev S1024x7680 : Shape := ⟨2, ![1024, 7680]⟩
abbrev S1x512x1024 : Shape := ⟨3, ![1, 512, 1024]⟩
abbrev S1x32x1024 : Shape := ⟨3, ![1, 32, 1024]⟩
abbrev S1024x512 : Shape := ⟨2, ![1024, 512]⟩
abbrev S512x1024 : Shape := ⟨2, ![512, 1024]⟩
abbrev S1x480x1024 : Shape := ⟨3, ![1, 480, 1024]⟩
abbrev S480x1024 : Shape := ⟨2, ![480, 1024]⟩
abbrev S32x1024 : Shape := ⟨2, ![32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x1024x7200, .f32⟩
  | .hbm, ⟨1, _⟩ => ⟨S1x7200x1024, .f32⟩
  | .hbm, ⟨2, _⟩ => ⟨S1024x7680, .bf16⟩
  | .local _ .vmem, ⟨0, _⟩ => ⟨S1x512x1024, .f32⟩
  | .local _ .vmem, ⟨1, _⟩ => ⟨S1x512x1024, .f32⟩
  | .local _ .vmem, ⟨2, _⟩ => ⟨S1x32x1024, .f32⟩
  | .local _ .vmem, ⟨3, _⟩ => ⟨S1x32x1024, .f32⟩
  | .local _ .vmem, ⟨4, _⟩ => ⟨S1024x512, .bf16⟩
  | .local _ .vmem, ⟨5, _⟩ => ⟨S1024x512, .bf16⟩
  | _, _ => ⟨S1x1024x7200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c6_i32_0 : BitVec 32 := 6#32
  let v3 : BitVec 1 := Scalar.cmpi .sge arg0 c6_i32_0
  let c14_i32 : BitVec 32 := 14#32
  let v4 : BitVec 1 := Scalar.cmpi .slt arg0 c14_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c14_i32_2 : BitVec 32 := 14#32
  let v8 : BitVec 1 := Scalar.cmpi .eq arg0 c14_i32_2
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let c14_i32 : BitVec 32 := 14#32
  let v0 : BitVec 1 := Scalar.cmpi .eq arg0 c14_i32
  let c6_i32 : BitVec 32 := 6#32
  let v1 : BitVec 32 := Scalar.select v0 c6_i32 arg0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c224_i32 : BitVec 32 := 224#32
  let v2 : BitVec 32 := Scalar.minsi v1 c224_i32
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S1x1024x7200 : Shape := ⟨3, ![1, 1024, 7200]⟩
abbrev S1024x7200 : Shape := ⟨2, ![1024, 7200]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x480 : Shape := ⟨2, ![1024, 480]⟩
abbrev S1024x7680 : Shape := ⟨2, ![1024, 7680]⟩

abbrev nBuf : Space → Nat
  | .hbm => 16
  | .vmem => 0
  | .smem => 0
  | _ => 0

abbrev bufTy : (tb : Table) → Fin (tcTables nBuf tb) → BufTy
  | .hbm, ⟨0, _⟩ => ⟨S1x1024x7200, .f32⟩
  | .hbm, ⟨1, _⟩ => ⟨S1024x7200, .f32⟩
  | .hbm, ⟨2, _⟩ => ⟨S1024x512, .f32⟩
  | .hbm, ⟨3, _⟩ => ⟨S1024x512, .f32⟩
  | .hbm, ⟨4, _⟩ => ⟨S1024x1024, .f32⟩
  | .hbm, ⟨5, _⟩ => ⟨S1024x1024, .f32⟩
  | .hbm, ⟨6, _⟩ => ⟨S1024x16, .f32⟩
  | .hbm, ⟨7, _⟩ => ⟨S1024x16, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x480, .f32⟩
  | .hbm, ⟨14, _⟩ => ⟨S1024x7680, .f32⟩
  | .hbm, ⟨15, _⟩ => ⟨S1024x7680, .bf16⟩
  | _, _ => ⟨S1x1024x7200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S32768x128 : Shape := ⟨2, ![32768, 128]⟩
abbrev S1x16x512 : Shape := ⟨3, ![1, 16, 512]⟩
abbrev S1x512 : Shape := ⟨2, ![1, 512]⟩
abbrev S16x512 : Shape := ⟨2, ![16, 512]⟩
abbrev S_ : Shape := ⟨0, ![]⟩
abbrev S128x512 : Shape := ⟨2, ![128, 512]⟩
abbrev S512 : Shape := ⟨1, ![512]⟩
abbrev S256x512 : Shape := ⟨2, ![256, 512]⟩
abbrev S256x1024 : Shape := ⟨2, ![256, 1024]⟩
abbrev S256x128 : Shape := ⟨2, ![256, 128]⟩
abbrev S4x128x256 : Shape := ⟨3, ![4, 128, 256]⟩
abbrev S256x256 : Shape := ⟨2, ![256, 256]⟩
abbrev S64x64 : Shape := ⟨2, ![64, 64]⟩
abbrev S128x256 : Shape := ⟨2, ![128, 256]⟩
abbrev S64x128 : Shape := ⟨2, ![64, 128]⟩
abbrev S1x128 : Shape := ⟨2, ![1, 128]⟩
abbrev S64x256 : Shape := ⟨2, ![64, 256]⟩
abbrev S1x128x256 : Shape := ⟨3, ![1, 128, 256]⟩
abbrev S128x1 : Shape := ⟨2, ![128, 1]⟩

abbrev nBuf : Space → Nat
  | .hbm => 16
  | .vmem => 13
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x128, .f32⟩
  | .hbm, ⟨4, _⟩ => ⟨S1x16x512, .f32⟩
  | .hbm, ⟨5, _⟩ => ⟨S1x512, .f32⟩
  | .hbm, ⟨6, _⟩ => ⟨S16x512, .f32⟩
  | .hbm, ⟨7, _⟩ => ⟨S_, .f32⟩
  | .hbm, ⟨8, _⟩ => ⟨S128x512, .f32⟩
  | .hbm, ⟨9, _⟩ => ⟨S_, .i32⟩
  | .hbm, ⟨10, _⟩ => ⟨S_, .i32⟩
  | .hbm, ⟨11, _⟩ => ⟨S128x512, .f32⟩
  | .hbm, ⟨12, _⟩ => ⟨S128x512, .bf16⟩
  | .hbm, ⟨13, _⟩ => ⟨S512, .f32⟩
  | .hbm, ⟨14, _⟩ => ⟨S1x512, .f32⟩
  | .hbm, ⟨15, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S128x512, .bf16⟩
  | .local _ .vmem, ⟨9, _⟩ => ⟨S1x512, .f32⟩
  | .local _ .vmem, ⟨10, _⟩ => ⟨S256x1024, .bf16⟩
  | .local _ .vmem, ⟨11, _⟩ => ⟨S256x1024, .bf16⟩
  | .local _ .vmem, ⟨12, _⟩ => ⟨S4x128x256, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32768x512 : Shape := ⟨2, ![32768, 512]⟩
abbrev S32768x1024 : Shape := ⟨2, ![32768, 1024]⟩
abbrev S32768x128 : Shape := ⟨2, ![32768, 128]⟩
abbrev S1x16x512 : Shape := ⟨3, ![1, 16, 512]⟩
abbrev S1x512 : Shape := ⟨2, ![1, 512]⟩
abbrev S32768x16 : Shape := ⟨2, ![32768, 16]⟩
abbrev S16x512 : Shape := ⟨2, ![16, 512]⟩
abbrev S_ : Shape := ⟨0, ![]⟩
abbrev S8x64x64x4x128 : Shape := ⟨5, ![8, 64, 64, 4, 128]⟩
abbrev S8x4x64x64x128 : Shape := ⟨5, ![8, 4, 64, 64, 128]⟩
abbrev S8x64x64x4x256 : Shape := ⟨5, ![8, 64, 64, 4, 256]⟩
abbrev S8x4x64x64x256 : Shape := ⟨5, ![8, 4, 64, 64, 256]⟩
abbrev S64x64 : Shape := ⟨2, ![64, 64]⟩
abbrev S8x4x128x256 : Shape := ⟨4, ![8, 4, 128, 256]⟩
abbrev S64x8x4x64x128 : Shape := ⟨5, ![64, 8, 4, 64, 128]⟩
abbrev S64x8x4x64x256 : Shape := ⟨5, ![64, 8, 4, 64, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S8x4x1x128 : Shape := ⟨4, ![8, 4, 1, 128]⟩
abbrev S8x4x64x64 : Shape := ⟨4, ![8, 4, 64, 64]⟩
abbrev S8x4x128 : Shape := ⟨3, ![8, 4, 128]⟩
abbrev S8x4x128x1 : Shape := ⟨4, ![8, 4, 128, 1]⟩

abbrev nBuf : Space → Nat
  | .hbm => 141
  | .vmem => 0
  | .smem => 0
  | _ => 0

abbrev hbmTy0_0 (i : Nat) : BufTy := match i % 128 with
  | 0 => ⟨S32768x512, .bf16⟩
  | 1 => ⟨S32768x512, .bf16⟩
  | 2 => ⟨S32768x1024, .bf16⟩
  | 3 => ⟨S32768x128, .f32⟩
  | 4 => ⟨S1x16x512, .f32⟩
  | 5 => ⟨S1x512, .f32⟩
  | 6 => ⟨S32768x16, .f32⟩
  | 7 => ⟨S16x512, .f32⟩
  | 8 => ⟨S32768x512, .f32⟩
  | 9 => ⟨S32768x512, .f32⟩
  | 10 => ⟨S32768x512, .f32⟩
  | 11 => ⟨S32768x512, .f32⟩
  | 12 => ⟨S_, .f32⟩
  | 13 => ⟨S32768x512, .f32⟩
  | 14 => ⟨S32768x512, .f32⟩
  | 15 => ⟨S32768x512, .f32⟩
  | 16 => ⟨S32768x512, .f32⟩
  | 17 => ⟨S32768x512, .i1⟩
  | 18 => ⟨S32768x512, .f32⟩
  | 19 => ⟨S32768x512, .f32⟩
  | 20 => ⟨S32768x512, .f32⟩
  | 21 => ⟨S32768x512, .f32⟩
  | 22 => ⟨S32768x512, .f32⟩
  | 23 => ⟨S32768x512, .f32⟩
  | 24 => ⟨S32768x512, .f32⟩
  | 25 => ⟨S32768x512, .f32⟩
  | 26 => ⟨S32768x512, .f32⟩
  | 27 => ⟨S_, .f32⟩
  | 28 => ⟨S32768x512, .f32⟩
  | 29 => ⟨S32768x512, .f32⟩
  | 30 => ⟨S8x64x64x4x128, .f32⟩
  | 31 => ⟨S8x4x64x64x128, .f32⟩
  | 32 => ⟨S32768x512, .f32⟩
  | 33 => ⟨S8x64x64x4x128, .f32⟩
  | 34 => ⟨S8x4x64x64x128, .f32⟩
  | 35 => ⟨S32768x512, .f32⟩
  | 36 => ⟨S8x64x64x4x128, .f32⟩
  | 37 => ⟨S8x4x64x64x128, .f32⟩
  | 38 => ⟨S32768x1024, .f32⟩
  | 39 => ⟨S8x64x64x4x256, .f32⟩
  | 40 => ⟨S8x4x64x64x256, .f32⟩
  | 41 => ⟨S_, .f32⟩
  | 42 => ⟨S_, .f32⟩
  | 43 => ⟨S8x4x64x64x128, .f32⟩
  | 44 => ⟨S_, .i1⟩
  | 45 => ⟨S64x64, .i1⟩
  | 46 => ⟨S64x64, .i32⟩
  | 47 => ⟨S_, .i32⟩
  | 48 => ⟨S64x64, .i32⟩
  | 49 => ⟨S64x64, .i32⟩
  | 50 => ⟨S64x64, .i32⟩
  | 51 => ⟨S64x64, .i1⟩
  | 52 => ⟨S_, .i1⟩
  | 53 => ⟨S64x64, .i1⟩
  | 54 => ⟨S64x64, .i1⟩
  | 55 => ⟨S_, .f32⟩
  | 56 => ⟨S8x4x128x256, .f32⟩
  | 57 => ⟨S64x8x4x64x128, .f32⟩
  | 58 => ⟨S64x8x4x64x128, .f32⟩
  | 59 => ⟨S64x8x4x64x256, .f32⟩
  | 60 => ⟨S64x8x4x64x128, .f32⟩
  | 61 => ⟨S_, .f32⟩
  | 62 => ⟨S64x8x4x64x256, .f32⟩
  | 63 => ⟨S_, .i32⟩
  | 64 => ⟨S64x8x4x64x128, .f32⟩
  | 65 => ⟨S64x8x4x64x128, .f32⟩
  | 66 => ⟨S64x8x4x64x256, .f32⟩
  | 67 => ⟨S64x8x4x64x128, .f32⟩
  | 68 => ⟨S64x64, .i1⟩
  | 69 => ⟨S_, .i32⟩
  | 70 => ⟨S8x4x128x256, .f32⟩
  | 71 => ⟨S64x8x4x64x256, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1x8x4x64x128, .f32⟩
  | 79 => ⟨S8x4x64x128, .f32⟩
  | 80 => ⟨S_, .i32⟩
  | 81 => ⟨S_, .i32⟩
  | 82 => ⟨S_, .i32⟩
  | 83 => ⟨S_, .i32⟩
  | 84 => ⟨S1x8x4x64x128, .f32⟩
  | 85 => ⟨S8x4x64x128, .f32⟩
  | 86 => ⟨S_, .i32⟩
  | 87 => ⟨S_, .i32⟩
  | 88 => ⟨S_, .i32⟩
  | 89 => ⟨S_, .i32⟩
  | 90 => ⟨S1x8x4x64x256, .f32⟩
  | 91 => ⟨S8x4x64x256, .f32⟩
  | 92 => ⟨S_, .i32⟩
  | 93 => ⟨S_, .i32⟩
  | 94 => ⟨S_, .i32⟩
  | 95 => ⟨S_, .i32⟩
  | 96 => ⟨S1x8x4x64x128, .f32⟩
  | 97 => ⟨S8x4x64x128, .f32⟩
  | 98 => ⟨S8x4x1x128, .f32⟩
  | 99 => ⟨S8x4x64x128, .f32⟩
  | 100 => ⟨S8x4x64x128, .f32⟩
  | 101 => ⟨S8x4x64x128, .f32⟩
  | 102 => ⟨S8x4x64x128, .f32⟩
  | 103 => ⟨S8x4x64x128, .f32⟩
  | 104 => ⟨S8x4x64x128, .f32⟩
  | 105 => ⟨S8x4x64x128, .f32⟩
  | 106 => ⟨S8x4x64x128, .f32⟩
  | 107 => ⟨S8x4x64x64, .f32⟩
  | 108 => ⟨S_, .f32⟩
  | 109 => ⟨S_, .f32⟩
  | 110 => ⟨S8x4x64x64, .i1⟩
  | 111 => ⟨S8x4x64x64, .f32⟩
  | 112 => ⟨S8x4x64x64, .f32⟩
  | 113 => ⟨S8x4x64x256, .f32⟩
  | 114 => ⟨S8x4x1x128, .f32⟩
  | 115 => ⟨S8x4x64x128, .f32⟩
  | 116 => ⟨S8x4x64x128, .f32⟩
  | 117 => ⟨S8x4x64x256, .f32⟩
  | 118 => ⟨S8x4x128, .f32⟩
  | 119 => ⟨S8x4x128, .f32⟩
  | 120 => ⟨S8x4x128x1, .f32⟩
  | 121 => ⟨S8x4x128x256, .f32⟩
  | 122 => ⟨S8x4x128x256, .f32⟩
  | 123 => ⟨S8x4x64x128, .f32⟩
  | 124 => ⟨S8x4x64x128, .f32⟩
  | 125 => ⟨S8x4x64x128, .f32⟩
  | 126 => ⟨S8x4x64x128, .f32⟩
  | 127 => ⟨S8x4x128x256, .f32⟩
  | _ => ⟨S32768x512, .bf16⟩

abbrev hbmTy0_1 (i : Nat) : BufTy := match i % 128 with
  | 0 => ⟨S8x4x128x256, .f32⟩
  | 1 => ⟨S8x4x64x256, .f32⟩
  | 2 => ⟨S1x8x4x64x256, .f32⟩
  | 3 => ⟨S_, .i32⟩
  | 4 => ⟨S_, .i32⟩
  | 5 => ⟨S_, .i32⟩
  | 6 => ⟨S_, .i32⟩
  | 7 => ⟨S64x8x4x64x256, .f32⟩
  | 8 => ⟨S_, .i32⟩
  | 9 => ⟨S_, .i32⟩
  | 10 => ⟨S8x64x64x4x256, .f32⟩
  | 11 => ⟨S32768x1024, .f32⟩
  | 12 => ⟨S32768x1024, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_call0_cst : Ref sig .tc := ⟨.hbm, 41, rfl⟩
abbrev main_call0_call0_v0 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_c_3 : Ref sig .tc := ⟨.hbm, 63, rfl⟩
abbrev main_v42_0 : Ref sig .tc := ⟨.hbm, 64, rfl⟩
abbrev main_v42_1 : Ref sig .tc := ⟨.hbm, 65, rfl⟩
abbrev main_v42_2 : Ref sig .tc := ⟨.hbm, 66, rfl⟩
abbrev main_v42_3 : Ref sig .tc := ⟨.hbm, 67, rfl⟩
abbrev main_v42_4 : Ref sig .tc := ⟨.hbm, 68, rfl⟩
abbrev main_v42_5 : Ref sig .tc := ⟨.hbm, 69, rfl⟩
abbrev main_v42_6 : Ref sig .tc := ⟨.hbm, 70, rfl⟩
abbrev main_v42_7 : Ref sig .tc := ⟨.hbm, 71, rfl⟩
abbrev main_while0c_c_11 : Ref sig .tc := ⟨.hbm, 72, rfl⟩
abbrev main_while0c_v46 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v46 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v47 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_c_2 : Ref sig .tc := ⟨.hbm, 89, rfl⟩
abbrev main_while0b_call4_v0 : Ref sig .tc := ⟨.hbm, 90, rfl⟩
abbrev main_while0b_v48 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_c_2 : Ref sig .tc := ⟨.hbm, 95, rfl⟩
abbrev main_while0b_call5_v0 : Ref sig .tc := ⟨.hbm, 96, rfl⟩
abbrev main_while0b_v49 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_v57 : Ref sig .tc := ⟨.hbm, 105, rfl⟩
abbrev main_while0b_v58 : Ref sig .tc := ⟨.hbm, 106, rfl⟩
abbrev main_while0b_v59 : Ref sig .tc := ⟨.hbm, 107, rfl⟩
abbrev main_while0b_cst_11 : Ref sig .tc := ⟨.hbm, 108, rfl⟩
abbrev main_while0b_call6_v0 : Ref sig .tc := ⟨.hbm, 109, rfl⟩
abbrev main_while0b_call6_v1 : Ref sig .tc := ⟨.hbm, 110, rfl⟩
abbrev main_while0b_call6_v2 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_v68 : Ref sig .tc := ⟨.hbm, 120, rfl⟩
abbrev main_while0b_v69 : Ref sig .tc := ⟨.hbm, 121, rfl⟩
abbrev main_while0b_v70 : Ref sig .tc := ⟨.hbm, 122, rfl⟩
abbrev main_while0b_v71 : Ref sig .tc := ⟨.hbm, 123, rfl⟩
abbrev main_while0b_v72 : Ref sig .tc := ⟨.hbm, 124, rfl⟩
abbrev main_while0b_v73 : Ref sig .tc := ⟨.hbm, 125, rfl⟩
abbrev main_while0b_v74 : Ref sig .tc := ⟨.hbm, 126, rfl⟩
abbrev main_while0b_v75 : Ref sig .tc := ⟨.hbm, 127, rfl⟩
abbrev main_while0b_v76 : Ref sig .tc := ⟨.hbm, 128, rfl⟩
abbrev main_while0b_v77 : Ref sig .tc := ⟨.hbm, 129, rfl⟩
abbrev main_while0b_call7_v0 : Ref sig .tc := ⟨.hbm, 130, rfl⟩
abbrev main_while0b_call7_c : Ref sig .tc := ⟨.hbm, 131, rfl⟩
abbrev main_while0b_call7_c_0 : Ref sig .tc := ⟨.hbm, 132, rfl⟩
abbrev main_while0b_call7_c_1 : Ref sig .tc := ⟨.hbm, 133, rfl⟩
abbrev main_while0b_call7_c_2 : Ref sig .tc := ⟨.hbm, 134, rfl⟩
abbrev main_while0b_v78 : Ref sig .tc := ⟨.hbm, 135, rfl⟩
abbrev main_while0b_c_12 : Ref sig .tc := ⟨.hbm, 136, rfl⟩
abbrev main_while0b_v79 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩

abbrev nD : Nat := 1
abbrev τ : Topo := Topo.v7x

variable {F : FTy → Type} [FloatOps F]

abbrev main_while0_count : Scf.Loop 32 := ⟨0#32, 64#32, 1#32⟩
-- ==== Kernel4.lean ====
abbrev S32768x1024 : Shape := ⟨2, ![32768, 1024]⟩
abbrev S1x256 : Shape := ⟨2, ![1, 256]⟩
abbrev S1x3x1024 : Shape := ⟨3, ![1, 3, 1024]⟩
abbrev S1x1024 : Shape := ⟨2, ![1, 1024]⟩
abbrev S1x2048x1024 : Shape := ⟨3, ![1, 2048, 1024]⟩
abbrev S1024 : Shape := ⟨1, ![1024]⟩
abbrev S256 : Shape := ⟨1, ![256]⟩
abbrev S3x1024 : Shape := ⟨2, ![3, 1024]⟩
abbrev S2048x1024 : Shape := ⟨2, ![2048, 1024]⟩
abbrev S512x1024 : Shape := ⟨2, ![512, 1024]⟩
abbrev S16x1024 : Shape := ⟨2, ![16, 1024]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩
abbrev S1024x1024 : Shape := ⟨2, ![1024, 1024]⟩

abbrev nBuf : Space → Nat
  | .hbm => 20
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S32768x1024, .bf16⟩
  | .hbm, ⟨6, _⟩ => ⟨S1x256, .f32⟩
  | .hbm, ⟨7, _⟩ => ⟨S1x3x1024, .f32⟩
  | .hbm, ⟨8, _⟩ => ⟨S1x1024, .f32⟩
  | .hbm, ⟨9, _⟩ => ⟨S1x2048x1024, .f32⟩
  | .hbm, ⟨10, _⟩ => ⟨S1024, .f32⟩
  | .hbm, ⟨11, _⟩ => ⟨S256, .f32⟩
  | .hbm, ⟨12, _⟩ => ⟨S1x256, .f32⟩
  | .hbm, ⟨13, _⟩ => ⟨S3x1024, .f32⟩
  | .hbm, ⟨14, _⟩ => ⟨S1024, .f32⟩
  | .hbm, ⟨15, _⟩ => ⟨S1x1024, .f32⟩
  | .hbm, ⟨16, _⟩ => ⟨S2048x1024, .f32⟩
  | .hbm, ⟨17, _⟩ => ⟨S2048x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S1x256, .f32⟩
  | .local _ .vmem, ⟨17, _⟩ => ⟨S3x1024, .f32⟩
  | .local _ .vmem, ⟨18, _⟩ => ⟨S1x1024, .f32⟩
  | .local _ .vmem, ⟨19, _⟩ => ⟨S2048x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S32768x1024 : Shape := ⟨2, ![32768, 1024]⟩
abbrev S1x256 : Shape := ⟨2, ![1, 256]⟩
abbrev S1x3x1024 : Shape := ⟨3, ![1, 3, 1024]⟩
abbrev S1x1024 : Shape := ⟨2, ![1, 1024]⟩
abbrev S1x2048x1024 : Shape := ⟨3, ![1, 2048, 1024]⟩
abbrev S1024 : Shape := ⟨1, ![1024]⟩
abbrev S32768x4x256 : Shape := ⟨3, ![32768, 4, 256]⟩
abbrev S_ : Shape := ⟨0, ![]⟩
abbrev S32768x4 : Shape := ⟨2, ![32768, 4]⟩
abbrev S32768x4x1 : Shape := ⟨3, ![32768, 4, 1]⟩
abbrev S256 : Shape := ⟨1, ![256]⟩
abbrev S1x1x256 : Shape := ⟨3, ![1, 1, 256]⟩
abbrev S8x4096x1024 : Shape := ⟨3, ![8, 4096, 1024]⟩
abbrev S8x4098x1024 : Shape := ⟨3, ![8, 4098, 1024]⟩
abbrev S1x1x1024 : Shape := ⟨3, ![1, 1, 1024]⟩
abbrev S32768x2048 : Shape := ⟨2, ![32768, 2048]⟩
abbrev S2048x1024 : Shape := ⟨2, ![2048, 1024]⟩
abbrev S32768 : Shape := ⟨1, ![32768]⟩
abbrev S32768x1 : Shape := ⟨2, ![32768, 1]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S32768x1024, .bf16⟩
  | .hbm, ⟨6, _⟩ => ⟨S1x256, .f32⟩
  | .hbm, ⟨7, _⟩ => ⟨S1x3x1024, .f32⟩
  | .hbm, ⟨8, _⟩ => ⟨S1x1024, .f32⟩
  | .hbm, ⟨9, _⟩ => ⟨S1x2048x1024, .f32⟩
  | .hbm, ⟨10, _⟩ => ⟨S1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x4x256, .f32⟩
  | .hbm, ⟨15, _⟩ => ⟨S32768x4x256, .f32⟩
  | .hbm, ⟨16, _⟩ => ⟨S_, .f32⟩
  | .hbm, ⟨17, _⟩ => ⟨S32768x4, .f32⟩
  | .hbm, ⟨18, _⟩ => ⟨S32768x4x1, .f32⟩
  | .hbm, ⟨19, _⟩ => ⟨S_, .f32⟩
  | .hbm, ⟨20, _⟩ => ⟨S32768x4x1, .f32⟩
  | .hbm, ⟨21, _⟩ => ⟨S32768x4x1, .f32⟩
  | .hbm, ⟨22, _⟩ => ⟨S_, .f32⟩
  | .hbm, ⟨23, _⟩ => ⟨S32768x4x1, .f32⟩
  | .hbm, ⟨24, _⟩ => ⟨S32768x4x1, .f32⟩
  | .hbm, ⟨25, _⟩ => ⟨S32768x4x1, .f32⟩
  | .hbm, ⟨26, _⟩ => ⟨S32768x4x256, .f32⟩
  | .hbm, ⟨27, _⟩ => ⟨S32768x4x256, .f32⟩
  | .hbm, ⟨28, _⟩ => ⟨S256, .f32⟩
  | .hbm, ⟨29, _⟩ => ⟨S1x1x256, .f32⟩
  | .hbm, ⟨30, _⟩ => ⟨S32768x4x256, .f32⟩
  | .hbm, ⟨31, _⟩ => ⟨S32768x4x256, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S8x4096x1024, .f32⟩
  | .hbm, ⟨37, _⟩ => ⟨S_, .i32⟩
  | .hbm, ⟨38, _⟩ => ⟨S_, .f32⟩
  | .hbm, ⟨39, _⟩ => ⟨S8x4098x1024, .f32⟩
  | .hbm, ⟨40, _⟩ => ⟨S1x1x1024, .f32⟩
  | .hbm, ⟨41, _⟩ => ⟨S1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x2048, .f32⟩
  | .hbm, ⟨68, _⟩ => ⟨S2048x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S32768x1, .f32⟩
  | .hbm, ⟨82, _⟩ => ⟨S32768x1024, .f32⟩
  | .hbm, ⟨83, _⟩ => ⟨S32768x1024, .f32⟩
  | .hbm, ⟨84, _⟩ => ⟨S1x1024, .f32⟩
  | .hbm, ⟨85, _⟩ => ⟨S32768x1024, .f32⟩
  | .hbm, ⟨86, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_2 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Proof.Spec.lean ====
/-
  The projection layer as functions of the arguments' entries over the extended reals, with no program in them: the
  row normalization, one entry of the combined projection, the SiLU gate, the product the short convolution runs over,
  and the convolution with its zero rows at the ends of each sequence of 4096 rows.
-/
module

public import Idealize.ShloMosaic.Lib.Pointwise
public import Idealize.ShloMosaic.PureOps.Ideal.Laws

@[expose] public section

set_option maxRecDepth 16384

noncomputable section

open Idealize.ShloMosaic

namespace Cert.Proj

/-- Entry `k` of the row `x` divided by its root mean square (with the constant added under the root) and scaled by `g`. -/
def nrm (x g : Fin 1024 → EReal) (k : Fin 1024) : EReal :=
  x k * Ideal.rsqrt (Ideal.div (∑ j : Fin 1024, x j * x j) (Ideal.ofBits .f32 0x44800000#32) + Ideal.ofBits .f32 0x358637BD#32)
    * g k

/-- `z` times the logistic function of `z`. -/
def silu (z : EReal) : EReal := z * Ideal.div 1 (1 + Ideal.exp (-z))

/-- The normalized row `x` times column `n` of the weight. -/
def rowProj (x g : Fin 1024 → EReal) (W : (⟨2, ![1024, 7680]⟩ : Shape).Idx → EReal) (n : Fin 7680) : EReal :=
  ∑ k : Fin 1024, nrm x g k * W (ix2 k n)

section Whole
variable (X : (⟨2, ![32768, 1024]⟩ : Shape).Idx → EReal) (g : (⟨2, ![1, 1024]⟩ : Shape).Idx → EReal)
  (W : (⟨2, ![1024, 7680]⟩ : Shape).Idx → EReal) (cw : (⟨2, ![3, 1024]⟩ : Shape).Idx → EReal)
  (cb : (⟨2, ![1, 1024]⟩ : Shape).Idx → EReal)

/-- Entry (`R`, `n`) of the combined projection. -/
def proj (R : Fin 32768) (n : Fin 7680) : EReal := rowProj (fun j => X (ix2 R j)) (fun j => g (ix2 0 j)) W n

/-- The convolution's input at row `R`, channel `c`: the gate times the hidden channel. -/
def conv_in (R : Fin 32768) (c : Fin 1024) : EReal :=
  proj X g W R ⟨4096 + c.val, by omega⟩ * proj X g W R ⟨5120 + c.val, by omega⟩

/-- The row before `R` in its sequence, zero at the sequence's first row. -/
def conv_prev (R : Fin 32768) (c : Fin 1024) : EReal :=
  if h : R.val % 4096 = 0 then 0 else conv_in X g W ⟨R.val - 1, by omega⟩ c

/-- The row after `R` in its sequence, zero at the sequence's last row. -/
def conv_next (R : Fin 32768) (c : Fin 1024) : EReal :=
  if h : R.val % 4096 = 4095 then 0 else conv_in X g W ⟨R.val + 1, by omega⟩ c

/-- The convolution of width three with its bias. -/
def conv (R : Fin 32768) (c : Fin 1024) : EReal :=
  cw (ix2 0 c) * conv_prev X g W R c + cw (ix2 1 c) * conv_in X g W R c + cw (ix2 2 c) * conv_next X g W R c + cb (ix2 0 c)

/-- The scaled queries. -/
def outQ (i : (⟨2, ![32768, 512]⟩ : Shape).Idx) : EReal :=
  proj X g W (i 0) ⟨(i 1).val, by have : (i 1).val < 512 := (i 1).isLt; omega⟩ * Ideal.ofBits .f32 0x3DB504F3#32

/-- The keys. -/
def outK (i : (⟨2, ![32768, 512]⟩ : Shape).Idx) : EReal :=
  proj X g W (i 0) ⟨512 + (i 1).val, by have : (i 1).val < 512 := (i 1).isLt; omega⟩

/-- The values. -/
def outV (i : (⟨2, ![32768, 1024]⟩ : Shape).Idx) : EReal :=
  proj X g W (i 0) ⟨1024 + (i 1).val, by have : (i 1).val < 1024 := (i 1).isLt; omega⟩

/-- The attention branch's output gate. -/
def outZ (i : (⟨2, ![32768, 1024]⟩ : Shape).Idx) : EReal :=
  silu (proj X g W (i 0) ⟨2048 + (i 1).val, by have : (i 1).val < 1024 := (i 1).isLt; omega⟩)

/-- The short convolution's branch: the gate times the convolution times the SiLU of its output gate. -/
def outY (i : (⟨2, ![32768, 1024]⟩ : Shape).Idx) : EReal :=
  proj X g W (i 0) ⟨3072 + (i 1).val, by have : (i 1).val < 1024 := (i 1).isLt; omega⟩ * conv X g W cw cb (i 0) (i 1)
    * silu (proj X g W (i 0) ⟨6144 + (i 1).val, by have : (i 1).val < 1024 := (i 1).isLt; omega⟩)

/-- The low-rank gate's inputs, one added on the two columns that carry the gates' biases. -/
def outL (i : (⟨2, ![32768, 128]⟩ : Shape).Idx) : EReal :=
  proj X g W (i 0) ⟨7168 + (i 1).val, by have : (i 1).val < 128 := (i 1).isLt; omega⟩
    + if (i 1).val = 32 ∨ (i 1).val = 33 then 1 else 0

end Whole

end Cert.Proj

end
-- ==== Proof.Pay.lean ====
/-
  The kernel's stored values read at an index, at the ideal values: the normalized block, the four plain products, the
  gates. Each lemma is about one value of the body, over any operands.
-/
module

public import proofs.«01_k».proof.Proof.Spec
public import proofs.«01_k».proof.Proof.Gen.KernelIdeal.Skeleton
public import Idealize.ShloMosaic.Lib.Pointwise
public import Idealize.ShloMosaic.Lib.KernelVsHost

@[expose] public section

set_option maxRecDepth 16384

noncomputable section

open Idealize.ShloMosaic

namespace Cert.KernelIdeal.Pay

open Cert.KernelIdeal Cert.KernelIdeal.Gen Cert.Proj

/-- The block's rows, normalized. -/
theorem pay2_apply (x : Vec Ideal S512x1024 .f32) (g : Vec Ideal S1x1024 .f32) (r : Fin 512) (k : Fin 1024) :
    k0_pay2 x g (ix2 r k) = nrm (fun j => x (ix2 r j)) (fun j => g (ix2 0 j)) k := by
  pointwise [k0_pay2, nrm]

/-- The halo rows, normalized. -/
theorem pay3_apply (x : Vec Ideal S8x1024 .f32) (g : Vec Ideal S1x1024 .f32) (r : Fin 8) (k : Fin 1024) :
    k0_pay3 x g (ix2 r k) = nrm (fun j => x (ix2 r j)) (fun j => g (ix2 0 j)) k := by
  pointwise [k0_pay3, nrm]

/-- The queries: the product, scaled. -/
theorem pay10_apply (h : FVec Ideal S512x1024 .bf16) (w : Vec Ideal S1024x512 .bf16) (r : Fin 512) (n : Fin 512) :
    k0_pay10 h w (ix2 r n) = (∑ k : Fin 1024, h (ix2 r k) * w (ix2 k n)) * Ideal.ofBits .f32 0x3DB504F3#32 := by
  pointwise [k0_pay10]

/-- The keys: the product. -/
theorem pay11_apply (h : FVec Ideal S512x1024 .bf16) (w : Vec Ideal S1024x512 .bf16) (r : Fin 512) (n : Fin 512) :
    k0_pay11 h w (ix2 r n) = ∑ k : Fin 1024, h (ix2 r k) * w (ix2 k n) := by
  pointwise [k0_pay11]

/-- The values: the product. -/
theorem pay12_apply (h : FVec Ideal S512x1024 .bf16) (w : Vec Ideal S1024x1024 .bf16) (r : Fin 512) (n : Fin 1024) :
    k0_pay12 h w (ix2 r n) = ∑ k : Fin 1024, h (ix2 r k) * w (ix2 k n) := by
  pointwise [k0_pay12]

/-- The output gate: the SiLU of the product. -/
theorem pay9_apply (h : FVec Ideal S512x1024 .bf16) (w : Vec Ideal S1024x1024 .bf16) (r : Fin 512) (n : Fin 1024) :
    k0_pay9 h w (ix2 r n) = silu (∑ k : Fin 1024, h (ix2 r k) * w (ix2 k n)) := by
  pointwise [k0_pay9, silu]
  rw [zero_sub]

/-- The low-rank gate's inputs: the product, one added on columns 32 and 33. -/
theorem pay1_apply (h : FVec Ideal S512x1024 .bf16) (w : Vec Ideal S1024x128 .bf16) (r : Fin 512) (n : Fin 128) :
    k0_pay1 h k0_pay13 k0_pay14 w (ix2 r n)
      = (∑ k : Fin 1024, h (ix2 r k) * w (ix2 k n)) + if n.val = 32 ∨ n.val = 33 then 1 else 0 := by
  have hs : IntOp.ori (IntOp.cmpi CmpIPredicate.eq (BitVec.ofNat 32 n.val) 32#32) (IntOp.cmpi CmpIPredicate.eq (BitVec.ofNat 32 n.val) 33#32)
      = if n.val = 32 ∨ n.val = 33 then 1#1 else 0#1 := by
    revert n; decide
  pointwise [k0_pay1, k0_pay13, k0_pay14]
  rw [hs]
  by_cases h : n.val = 32 ∨ n.val = 33
  · simp [h, Scalar.select]
  · simp [h, Scalar.select]

end Cert.KernelIdeal.Pay

end
-- ==== Proof.Conv.lean ====
/-
  The short convolution's values of the body read at an index, at the ideal values: the product it runs over on the
  block's own rows and on the two halo rows, the rows before and after, and the stored branch.
-/
module

public import proofs.«01_k».proof.Proof.Pay

@[expose] public section

set_option maxRecDepth 16384

noncomputable section

open Idealize.ShloMosaic

namespace Cert.KernelIdeal.Pay

open Cert.KernelIdeal Cert.KernelIdeal.Gen Cert.Proj

variable (h : FVec Ideal S512x1024 .bf16) (a : FVec Ideal S8x1024 .f32) (y : Vec Ideal S8x1024 .f32) (g : Vec Ideal S1x1024 .f32)
  (wb wc : Vec Ideal S1024x1024 .bf16)

/-- The product of the two projections of one row. -/
def prod2 (x : Fin 1024 → EReal) (wb wc : Vec Ideal S1024x1024 .bf16) (c : Fin 1024) : EReal :=
  (∑ k : Fin 1024, x k * wb (ix2 k c)) * ∑ k : Fin 1024, x k * wc (ix2 k c)

/-- On the block's own rows the product is of the block's normalized row. -/
theorem pay5_apply (r : Fin 512) (c : Fin 1024) : k0_pay5 h a y g wb wc (ix2 r c) = prod2 (fun k => h (ix2 r k)) wb wc c := by
  pointwise [k0_pay5, k0_pay4, prod2]

/-- Row 519 is the last row of the block before: the product is of its normalized row. -/
theorem pay4_prev (c : Fin 1024) : k0_pay4 h a y g wb wc (ix2 519 c) = prod2 (fun k => a (ix2 7 k)) wb wc c := by
  pointwise [k0_pay4, prod2]

/-- Row 520 is the first row of the block after: the product is of its row, normalized here. -/
theorem pay4_next (c : Fin 1024) :
    k0_pay4 h a y g wb wc (ix2 520 c) = prod2 (nrm (fun k => y (ix2 0 k)) (fun k => g (ix2 0 k))) wb wc c := by
  pointwise [k0_pay4, prod2, nrm]

/-- A one-bit word that is the answer of an equality chooses by the equality. -/
theorem select_eq {α : Type} (u v : BitVec 32) (x z : α) :
    Scalar.select (Scalar.cmpi CmpIPredicate.eq u v) x z = if u = v then x else z := by
  by_cases huv : u = v
  · subst huv; simp [Scalar.select, Scalar.cmpi, IntOp.cmpi]
  · have e : (u == v) = false := by simp [huv]
    simp [Scalar.select, Scalar.cmpi, IntOp.cmpi, huv, e]

/-- The row after the block, zero where the block ends a sequence. -/
theorem pay6_apply (v : BitVec 32) (c : Fin 1024) : k0_pay6 v h a y g wb wc (ix2 0 c)
    = if v = 7#32 then 0 else prod2 (nrm (fun k => y (ix2 0 k)) (fun k => g (ix2 0 k))) wb wc c := by
  pointwise [k0_pay6]
  rw [select_eq, pay4_next]

/-- The row before row `r`: the halo's (zero where the block starts a sequence) at row 0, else the block's. -/
theorem pay7_apply (v : BitVec 32) (r : Fin 512) (c : Fin 1024) : k0_pay7 v h a y g wb wc (ix2 r c)
    = if hr : r.val = 0 then (if v = 0#32 then 0 else prod2 (fun k => a (ix2 7 k)) wb wc c)
      else prod2 (fun k => h (ix2 ⟨r.val - 1, by omega⟩ k)) wb wc c := by
  have hw : (BitVec.ofNat 32 r.val = 0#32) ↔ r.val = 0 := by
    revert r; decide
  pointwise [k0_pay7]
  change Scalar.select (Scalar.cmpi CmpIPredicate.eq (BitVec.ofNat 32 r.val) 0#32) _ _ = _
  rw [select_eq, select_eq, pay4_prev, pay5_apply]
  by_cases hr : r.val = 0
  · rw [if_pos (hw.2 hr), dif_pos hr]
  · rw [if_neg (fun e => hr (hw.1 e)), dif_neg hr]
    have e : (r.val + 512 - 1) % 512 = r.val - 1 := by omega
    simp only [e]

/-- The stored branch over the convolution's input, its rows before, and the row after the block. -/
theorem pay8_apply (u : FVec Ideal S512x1024 .f32) (nx : FVec Ideal S1x1024 .f32) (pv : FVec Ideal S512x1024 .f32)
    (c0 c1 c2 cb : Vec Ideal S1x1024 .f32) (wg wz : Vec Ideal S1024x1024 .bf16) (r : Fin 512) (c : Fin 1024) :
    k0_pay8 h u nx (iota .tc S512x1 32 [0] iota_S512x1_d0_w32) pv 511#32 c0 c1 c2 cb wg wz (ix2 r c)
      = (∑ k : Fin 1024, h (ix2 r k) * wg (ix2 k c))
          * (c0 (ix2 0 c) * pv (ix2 r c) + c1 (ix2 0 c) * u (ix2 r c)
              + c2 (ix2 0 c) * (if hr : r.val = 511 then nx (ix2 0 c) else u (ix2 ⟨r.val + 1, by omega⟩ c)) + cb (ix2 0 c))
          * silu (∑ k : Fin 1024, h (ix2 r k) * wz (ix2 k c)) := by
  have hw : (BitVec.ofNat 32 r.val = 511#32) ↔ r.val = 511 := by
    revert r; decide
  have hs : Scalar.select (IntOp.cmpi CmpIPredicate.eq (BitVec.ofNat 32 r.val) 511#32) (nx (ix2 0 c))
      (u (ix2 ⟨(r.val + 512 - 511) % 512, Nat.mod_lt _ (by omega)⟩ c))
      = if hr : r.val = 511 then nx (ix2 0 c) else u (ix2 ⟨r.val + 1, by omega⟩ c) := by
    change Scalar.select (Scalar.cmpi CmpIPredicate.eq (BitVec.ofNat 32 r.val) 511#32) _ _ = _
    rw [select_eq]
    by_cases hr : r.val = 511
    · rw [if_pos (hw.2 hr), dif_pos hr]
    · rw [if_neg (fun e => hr (hw.1 e)), dif_neg hr]
      have e : (r.val + 512 - 511) % 512 = r.val + 1 := by omega
      simp only [e]
  rw [← hs]
  pointwise [k0_pay8, silu]
  rw [zero_sub]

/-- The grid point's place in its sequence, as the body computes it. -/
def posWord (n : Nat) : BitVec 32 :=
  Scalar.select (Scalar.andi (Scalar.xori (Scalar.cmpi .slt (Scalar.remsi (BitVec.ofNat 32 n) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n) (Scalar.select (Scalar.cmpi .eq 8#32 0#32) 1#32 8#32)) 0#32)) (Scalar.addi (Scalar.remsi (BitVec.ofNat 32 n) (Scalar.select (Scalar.cmpi .eq 8#32 0#32) 1#32 8#32)) (Scalar.select (Scalar.cmpi .eq 8#32 0#32) 1#32 8#32)) (Scalar.remsi (BitVec.ofNat 32 n) (Scalar.select (Scalar.cmpi .eq 8#32 0#32) 1#32 8#32))

/-- It is zero exactly at the first of eight points, and seven exactly at the last. -/
theorem posWord_iff (n : Fin 64) : (posWord n.val = 0#32 ↔ n.val % 8 = 0) ∧ (posWord n.val = 7#32 ↔ n.val % 8 = 7) := by
  revert n; decide +kernel

end Cert.KernelIdeal.Pay

end
-- ==== Proof.Block.lean ====
/-
  What one grid point of the kernel leaves in each output's staging buffer, as the layer's functions of the rows of the
  point's input blocks (any contents of the blocks).
-/
module

public import proofs.«01_k».proof.Proof.Conv
public import proofs.«01_k».proof.Proof.Gen.KernelIdeal.Frame
public import Idealize.ShloMosaic.Lib.Pipeline.ValueKit

@[expose] public section

set_option maxRecDepth 16384

noncomputable section

open Idealize.ShloMosaic

namespace Cert.KernelIdeal.Block

open Cert.KernelIdeal Cert.KernelIdeal.Gen Cert.KernelIdeal.Pay Cert.Proj

/-- The stores and loads of whole buffers start at offset zero. -/
theorem hz : (![0, 0] : Fin 2 → Nat) = fun _ => 0 := funext fun a => by fin_cases a <;> rfl

variable (i : grid0.Coords) (x0 : Vec Ideal S512x1024 .f32) (x1 x2 : Vec Ideal S8x1024 .f32) (x3 : Vec Ideal S1x1024 .f32)
  (x4 : Vec Ideal S1024x7680 .bf16) (x5 : Vec Ideal S3x1024 .f32) (x6 : Vec Ideal S1x1024 .f32)

/-- Row `r` of the block projected onto column `n`. -/
def rowP (x0 : Vec Ideal S512x1024 .f32) (x3 : Vec Ideal S1x1024 .f32) (x4 : Vec Ideal S1024x7680 .bf16) (r : Fin 512) (n : Fin 7680) : EReal :=
  rowProj (fun j => x0 (ix2 r j)) (fun j => x3 (ix2 0 j)) x4 n

/-- The normalized block at an index. -/
theorem pay15_apply (r : Fin 512) (k : Fin 1024) :
    k0_pay15 i x0 x1 x2 x3 x4 x5 x6 (ix2 r k) = nrm (fun j => x0 (ix2 r j)) (fun j => x3 (ix2 0 j)) k := by
  unfold k0_pay15
  rw [View.ld_unit_zero (S := S512x1024) hz, View.ld_unit_zero (S := S1x1024) hz, pay2_apply]

/-- The normalized halo before the block at an index. -/
theorem pay16_apply (r : Fin 8) (k : Fin 1024) :
    k0_pay16 i x0 x1 x2 x3 x4 x5 x6 (ix2 r k) = nrm (fun j => x1 (ix2 r j)) (fun j => x3 (ix2 0 j)) k := by
  unfold k0_pay16
  rw [View.ld_unit_zero (S := S8x1024) hz, View.ld_unit_zero (S := S1x1024) hz, pay3_apply]

/-- The queries' block. -/
theorem out7_apply (r : Fin 512) (n : Fin 512) :
    out0_7 i x0 x1 x2 x3 x4 x5 x6 (ix2 r n) = rowP x0 x3 x4 r ⟨n.val, by omega⟩ * Ideal.ofBits .f32 0x3DB504F3#32 := by
  unfold out0_7
  rw [View.canon_unit_zero (S := S512x512) hz, pay10_apply]
  simp only [pay15_apply]
  pointwise [rowP, rowProj]

/-- The keys' block. -/
theorem out8_apply (r : Fin 512) (n : Fin 512) :
    out0_8 i x0 x1 x2 x3 x4 x5 x6 (ix2 r n) = rowP x0 x3 x4 r ⟨512 + n.val, by omega⟩ := by
  unfold out0_8
  rw [View.canon_unit_zero (S := S512x512) hz, pay11_apply]
  simp only [pay15_apply]
  pointwise [rowP, rowProj]

/-- The values' block. -/
theorem out9_apply (r : Fin 512) (n : Fin 1024) :
    out0_9 i x0 x1 x2 x3 x4 x5 x6 (ix2 r n) = rowP x0 x3 x4 r ⟨1024 + n.val, by omega⟩ := by
  unfold out0_9
  rw [View.canon_unit_zero (S := S512x1024) hz, pay12_apply]
  simp only [pay15_apply]
  pointwise [rowP, rowProj]

/-- The output gate's block. -/
theorem out10_apply (r : Fin 512) (n : Fin 1024) :
    out0_10 i x0 x1 x2 x3 x4 x5 x6 (ix2 r n) = silu (rowP x0 x3 x4 r ⟨2048 + n.val, by omega⟩) := by
  unfold out0_10
  rw [View.canon_unit_zero (S := S512x1024) hz, pay9_apply]
  simp only [pay15_apply]
  pointwise [rowP, rowProj]

/-- The low-rank gate's inputs' block. -/
theorem out12_apply (r : Fin 512) (n : Fin 128) :
    out0_12 i x0 x1 x2 x3 x4 x5 x6 (ix2 r n)
      = rowP x0 x3 x4 r ⟨7168 + n.val, by omega⟩ + if n.val = 32 ∨ n.val = 33 then 1 else 0 := by
  unfold out0_12
  rw [View.canon_unit_zero (S := S512x128) hz, pay1_apply]
  simp only [pay15_apply]
  pointwise [rowP, rowProj]

/-- The convolution's input in the projections' columns of the weight. -/
theorem prod2_ld (x g : Fin 1024 → EReal) (c : Fin 1024) :
    prod2 (nrm x g) (View.ld x4 r0_3) (View.ld x4 r0_4) c
      = rowProj x g x4 ⟨4096 + c.val, by omega⟩ * rowProj x g x4 ⟨5120 + c.val, by omega⟩ := by
  pointwise [prod2, rowProj]

/-- The convolution's input at row `r`, channel `c` of a stack of rows. -/
def rowU (x g : Fin 1024 → EReal) (W : Vec Ideal S1024x7680 .bf16) (c : Fin 1024) : EReal :=
  rowProj x g W ⟨4096 + c.val, by omega⟩ * rowProj x g W ⟨5120 + c.val, by omega⟩

/-- The short convolution's block. -/
theorem out11_apply (r : Fin 512) (c : Fin 1024) (hi : (i 0).val < 64) :
    out0_11 i x0 x1 x2 x3 x4 x5 x6 (ix2 r c)
      = rowP x0 x3 x4 r ⟨3072 + c.val, by omega⟩
          * (x5 (ix2 0 c) * (if hr : r.val = 0 then (if (i 0).val % 8 = 0 then 0
                  else rowU (fun j => x1 (ix2 7 j)) (fun j => x3 (ix2 0 j)) x4 c)
                else rowU (fun j => x0 (ix2 ⟨r.val - 1, by omega⟩ j)) (fun j => x3 (ix2 0 j)) x4 c)
              + x5 (ix2 1 c) * rowU (fun j => x0 (ix2 r j)) (fun j => x3 (ix2 0 j)) x4 c
              + x5 (ix2 2 c) * (if hr : r.val = 511 then (if (i 0).val % 8 = 7 then 0
                  else rowU (fun j => x2 (ix2 0 j)) (fun j => x3 (ix2 0 j)) x4 c)
                else rowU (fun j => x0 (ix2 ⟨r.val + 1, by omega⟩ j)) (fun j => x3 (ix2 0 j)) x4 c)
              + x6 (ix2 0 c))
          * silu (rowP x0 x3 x4 r ⟨6144 + c.val, by omega⟩) := by
  have hp := posWord_iff ⟨(i 0).val, hi⟩
  dsimp only at hp
  unfold out0_11
  rw [View.canon_unit_zero (S := S512x1024) hz]
  change k0_pay8 (k0_pay15 i x0 x1 x2 x3 x4 x5 x6) (k0_pay5 (k0_pay15 i x0 x1 x2 x3 x4 x5 x6) (k0_pay16 i x0 x1 x2 x3 x4 x5 x6) (View.ld x2 r0_2) (View.ld x3 r0_1) (View.ld x4 r0_3) (View.ld x4 r0_4))
    (k0_pay6 (posWord (i 0).val) (k0_pay15 i x0 x1 x2 x3 x4 x5 x6) (k0_pay16 i x0 x1 x2 x3 x4 x5 x6) (View.ld x2 r0_2) (View.ld x3 r0_1) (View.ld x4 r0_3) (View.ld x4 r0_4)) _
    (k0_pay7 (posWord (i 0).val) (k0_pay15 i x0 x1 x2 x3 x4 x5 x6) (k0_pay16 i x0 x1 x2 x3 x4 x5 x6) (View.ld x2 r0_2) (View.ld x3 r0_1) (View.ld x4 r0_3) (View.ld x4 r0_4)) _ _ _ _ _ _ _ _ = _
  rw [pay8_apply]
  simp only [pay5_apply, pay6_apply, pay7_apply, pay15_apply, pay16_apply, View.ld_unit_zero (S := S8x1024) hz,
    View.ld_unit_zero (S := S1x1024) hz, hp.1, hp.2]
  have e := fun x g => prod2_ld x4 x g c
  simp only [show ∀ x g, (fun k => nrm x g k) = nrm x g from fun _ _ => rfl, e]
  pointwise [rowP, rowProj, rowU]

end Cert.KernelIdeal.Block

end
-- ==== Proof.Final.lean ====
/-
  The kernel's six result arrays after the run, as whole-array functions of its arguments at the ideal values.
-/
module

public import proofs.«01_k».proof.Proof.Block
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Block Cert.Proj

variable (m : (ℓ : Loc nD τ sig) → Buf (Elt Ideal) ℓ) (ρ : Dev nD → PrngReg)

/-- The input windows' block indices at a grid point: the point's own block of rows, the eight rows before it (the
    first eight at point zero), the eight rows after it (the last eight at the last point), and the whole operands. -/
theorem idxIn : ∀ t : Fin cfg0.N, win0_0.index t = ![t.val, 0] ∧ win0_1.index t = ![64 * t.val - 1, 0]
    ∧ win0_2.index t = ![min (64 * (t.val + 1)) 4095, 0] ∧ win0_3.index t = ![0, 0] ∧ win0_4.index t = ![0, 0]
    ∧ win0_5.index t = ![0, 0] ∧ win0_6.index t = ![0, 0] :=
  (by decide +kernel : ∀ t : Fin grid0.N, _)

/-- The output windows' block indices: the point's own block of rows. -/
theorem idxOut : ∀ t : Fin cfg0.N, win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-- The grid's one coordinate is the point's number. -/
theorem coord : ∀ t : Fin cfg0.N, (grid0.coords t 0).val = t.val := (by decide +kernel : ∀ t : Fin grid0.N, _)

/-- There are 64 points. -/
theorem lt64 (t : Fin cfg0.N) : t.val < 64 := lt_of_lt_of_eq t.isLt N_0

/-- Row `r` of the block at point `t` is row `512 t + r` of the input. -/
theorem iblk0_apply (c : Dev nD) (t : Fin cfg0.N) (r : Fin 512) (k : Fin 1024) :
    iblk m c 0 t (ix2 r k) = m ((c : Thread nD τ).loc main_arg0) (ix2 ⟨512 * t.val + r.val, by have := lt64 t; omega⟩ k) := by
  have e := (idxIn t).1
  blk_ext [iblk, V, e]

/-- The last of the eight rows before the block, at a point that is not the first. -/
theorem iblk1_apply (c : Dev nD) (t : Fin cfg0.N) (ht : t.val ≠ 0) (k : Fin 1024) :
    iblk m c 1 t (ix2 7 k) = m ((c : Thread nD τ).loc main_arg0) (ix2 ⟨512 * t.val - 1, by have := lt64 t; omega⟩ k) := by
  have e := (idxIn t).2.1
  have h7 : ((7 : Fin 8) : Nat) = 7 := rfl
  blk_ext [iblk, V, e, h7]

/-- The first of the eight rows after the block, at a point that is not the last. -/
theorem iblk2_apply (c : Dev nD) (t : Fin cfg0.N) (ht : t.val ≠ 63) (k : Fin 1024) :
    iblk m c 2 t (ix2 0 k) = m ((c : Thread nD τ).loc main_arg0) (ix2 ⟨512 * t.val + 512, by have := lt64 t; omega⟩ k) := by
  have e := (idxIn t).2.2.1
  have := lt64 t
  blk_ext [iblk, V, e]

/-- The gain row. -/
theorem iblk3_eq (c : Dev nD) (t : Fin cfg0.N) : iblk m c 3 t = m ((c : Thread nD τ).loc main_arg1) := by
  have e := (idxIn t).2.2.2.1
  funext j; blk_ext [iblk, V, e]

/-- The weight. -/
theorem iblk4_eq (c : Dev nD) (t : Fin cfg0.N) : iblk m c 4 t = m ((c : Thread nD τ).loc main_arg2) := by
  have e := (idxIn t).2.2.2.2.1
  funext j; blk_ext [iblk, V, e]

/-- The convolution's weights. -/
theorem iblk5_eq (c : Dev nD) (t : Fin cfg0.N) : iblk m c 5 t = m ((c : Thread nD τ).loc main_arg3) := by
  have e := (idxIn t).2.2.2.2.2.1
  funext j; blk_ext [iblk, V, e]

/-- The convolution's bias. -/
theorem iblk6_eq (c : Dev nD) (t : Fin cfg0.N) : iblk m c 6 t = m ((c : Thread nD τ).loc main_arg4) := by
  have e := (idxIn t).2.2.2.2.2.2
  funext j; blk_ext [iblk, V, e]

/-- A row of the point's block projected is the array's row projected. -/
theorem rowP_eq (c : Dev nD) (t : Fin cfg0.N) (r : Fin 512) (n : Fin 7680) (R : Fin 32768) (hR : R.val = 512 * t.val + r.val) :
    rowP (iblk m c 0 t) (iblk m c 3 t) (iblk m c 4 t) r n
      = proj (m ((c : Thread nD τ).loc main_arg0)) (m ((c : Thread nD τ).loc main_arg1)) (m ((c : Thread nD τ).loc main_arg2)) R n := by
  have hlt := lt64 t
  have e : R = ⟨512 * t.val + r.val, by omega⟩ := Fin.ext hR
  rw [e]
  unfold rowP proj
  rw [iblk3_eq, iblk4_eq]
  simp only [iblk0_apply]

/-- The same of the convolution's input. -/
theorem rowU_eq (c : Dev nD) (t : Fin cfg0.N) (x : Fin 1024 → EReal) (n : Fin 1024) (R : Fin 32768)
    (hx : ∀ k, x k = m ((c : Thread nD τ).loc main_arg0) (ix2 R k)) :
    rowU x (fun j => iblk m c 3 t (ix2 0 j)) (iblk m c 4 t) n
      = conv_in (m ((c : Thread nD τ).loc main_arg0)) (m ((c : Thread nD τ).loc main_arg1)) (m ((c : Thread nD τ).loc main_arg2)) R n := by
  obtain rfl : x = fun k => m ((c : Thread nD τ).loc main_arg0) (ix2 R k) := funext hx
  unfold rowU conv_in proj
  rw [iblk3_eq, iblk4_eq]

/-- Row `r` of the block at point `t`, as a row of the array. -/
def row (t : Fin cfg0.N) (r : Fin 512) : Fin 32768 := ⟨512 * t.val + r.val, by have := lt64 t; omega⟩

/-- The queries' array. -/
theorem final7 (c : Dev nD) : (dats m 0 c).arrAt 7 cfg0.N
    = outQ (m ((c : Thread nD τ).loc main_arg0)) (m ((c : Thread nD τ).loc main_arg1)) (m ((c : Thread nD τ).loc main_arg2)) := by
  refine (dats m 0 c).arrAt_eq_of_covers 7 _ (by decide +kernel) fun t hf y => ?_
  have e := (idxOut t).1
  blk_simp
  rw [after0_7]
  idx_vars y
  have hE : (win0_7.blk t).view.emb (ix2 y0 y1) = (ix2 (row t y0) y1 : S32768x512.Idx) := by
    blk_ext [e, row]
  rw [hE, out7_apply, rowP_eq m c t y0 _ (row t y0) rfl]
  rfl

/-- The keys' array. -/
theorem final8 (c : Dev nD) : (dats m 0 c).arrAt 8 cfg0.N
    = outK (m ((c : Thread nD τ).loc main_arg0)) (m ((c : Thread nD τ).loc main_arg1)) (m ((c : Thread nD τ).loc main_arg2)) := by
  refine (dats m 0 c).arrAt_eq_of_covers 8 _ (by decide +kernel) fun t hf y => ?_
  have e := (idxOut t).2.1
  blk_simp
  rw [after0_8]
  idx_vars y
  have hE : (win0_8.blk t).view.emb (ix2 y0 y1) = (ix2 (row t y0) y1 : S32768x512.Idx) := by
    blk_ext [e, row]
  rw [hE, out8_apply, rowP_eq m c t y0 _ (row t y0) rfl]
  rfl

/-- The values' array. -/
theorem final9 (c : Dev nD) : (dats m 0 c).arrAt 9 cfg0.N
    = outV (m ((c : Thread nD τ).loc main_arg0)) (m ((c : Thread nD τ).loc main_arg1)) (m ((c : Thread nD τ).loc main_arg2)) := by
  refine (dats m 0 c).arrAt_eq_of_covers 9 _ (by decide +kernel) fun t hf y => ?_
  have e := (idxOut t).2.2.1
  blk_simp
  rw [after0_9]
  idx_vars y
  have hE : (win0_9.blk t).view.emb (ix2 y0 y1) = (ix2 (row t y0) y1 : S32768x1024.Idx) := by
    blk_ext [e, row]
  rw [hE, out9_apply, rowP_eq m c t y0 _ (row t y0) rfl]
  rfl

/-- The attention branch's gate's array. -/
theorem final10 (c : Dev nD) : (dats m 0 c).arrAt 10 cfg0.N
    = outZ (m ((c : Thread nD τ).loc main_arg0)) (m ((c : Thread nD τ).loc main_arg1)) (m ((c : Thread nD τ).loc main_arg2)) := by
  refine (dats m 0 c).arrAt_eq_of_covers 10 _ (by decide +kernel) fun t hf y => ?_
  have e := (idxOut t).2.2.2.1
  blk_simp
  rw [after0_10]
  idx_vars y
  have hE : (win0_10.blk t).view.emb (ix2 y0 y1) = (ix2 (row t y0) y1 : S32768x1024.Idx) := by
    blk_ext [e, row]
  rw [hE, out10_apply, rowP_eq m c t y0 _ (row t y0) rfl]
  rfl

/-- The low-rank gate's inputs' array. -/
theorem final12 (c : Dev nD) : (dats m 0 c).arrAt 12 cfg0.N
    = outL (m ((c : Thread nD τ).loc main_arg0)) (m ((c : Thread nD τ).loc main_arg1)) (m ((c : Thread nD τ).loc main_arg2)) := by
  refine (dats m 0 c).arrAt_eq_of_covers 12 _ (by decide +kernel) fun t hf y => ?_
  have e := (idxOut t).2.2.2.2.2
  blk_simp
  rw [after0_12]
  idx_vars y
  have hE : (win0_12.blk t).view.emb (ix2 y0 y1) = (ix2 (row t y0) y1 : S32768x128.Idx) := by
    blk_ext [e, row]
  rw [hE, out12_apply, rowP_eq m c t y0 _ (row t y0) rfl]
  rfl

/-- The row before: the halo's row at row 0 of a block, the block's own above. -/
theorem prev_eq (c : Dev nD) (t : Fin cfg0.N) (r : Fin 512) (n : Fin 1024) :
    (if hr : r.val = 0 then (if (grid0.coords t 0).val % 8 = 0 then 0
        else rowU (fun j => iblk m c 1 t (ix2 7 j)) (fun j => iblk m c 3 t (ix2 0 j)) (iblk m c 4 t) n)
      else rowU (fun j => iblk m c 0 t (ix2 ⟨r.val - 1, by omega⟩ j)) (fun j => iblk m c 3 t (ix2 0 j)) (iblk m c 4 t) n)
      = conv_prev (m ((c : Thread nD τ).loc main_arg0)) (m ((c : Thread nD τ).loc main_arg1)) (m ((c : Thread nD τ).loc main_arg2)) (row t r) n := by
  have hlt := lt64 t
  have hrow : (row t r).val = 512 * t.val + r.val := rfl
  rw [coord]
  unfold conv_prev
  by_cases hr : r.val = 0
  · rw [dif_pos hr]
    by_cases ht : t.val % 8 = 0
    · rw [if_pos ht, dif_pos (by omega)]
    · rw [if_neg ht, dif_neg (by omega)]
      refine rowU_eq m c t _ n _ fun k => ?_
      rw [iblk1_apply m c t (by omega)]
      congr 2
      apply Fin.ext; show 512 * t.val - 1 = (row t r).val - 1; omega
  · rw [dif_neg hr, dif_neg (by omega)]
    refine rowU_eq m c t _ n _ fun k => ?_
    rw [iblk0_apply]
    congr 2
    apply Fin.ext; show 512 * t.val + (r.val - 1) = (row t r).val - 1; omega

/-- The row after: the halo's row at row 511 of a block, the block's own below. -/
theorem next_eq (c : Dev nD) (t : Fin cfg0.N) (r : Fin 512) (n : Fin 1024) :
    (if hr : r.val = 511 then (if (grid0.coords t 0).val % 8 = 7 then 0
        else rowU (fun j => iblk m c 2 t (ix2 0 j)) (fun j => iblk m c 3 t (ix2 0 j)) (iblk m c 4 t) n)
      else rowU (fun j => iblk m c 0 t (ix2 ⟨r.val + 1, by omega⟩ j)) (fun j => iblk m c 3 t (ix2 0 j)) (iblk m c 4 t) n)
      = conv_next (m ((c : Thread nD τ).loc main_arg0)) (m ((c : Thread nD τ).loc main_arg1)) (m ((c : Thread nD τ).loc main_arg2)) (row t r) n := by
  have hlt := lt64 t
  have hrow : (row t r).val = 512 * t.val + r.val := rfl
  rw [coord]
  unfold conv_next
  by_cases hr : r.val = 511
  · rw [dif_pos hr]
    by_cases ht : t.val % 8 = 7
    · rw [if_pos ht, dif_pos (by omega)]
    · rw [if_neg ht, dif_neg (by omega)]
      refine rowU_eq m c t _ n _ fun k => ?_
      rw [iblk2_apply m c t (by omega)]
      congr 2
      apply Fin.ext; show 512 * t.val + 512 = (row t r).val + 1; omega
  · rw [dif_neg hr, dif_neg (by omega)]
    refine rowU_eq m c t _ n _ fun k => ?_
    rw [iblk0_apply]
    congr 2

/-- The short convolution's array. -/
theorem final11 (c : Dev nD) : (dats m 0 c).arrAt 11 cfg0.N
    = outY (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 11 _ (by decide +kernel) fun t hf y => ?_
  have e := (idxOut t).2.2.2.2.1
  blk_simp
  rw [after0_11]
  idx_vars y
  have hE : (win0_11.blk t).view.emb (ix2 y0 y1) = (ix2 (row t y0) y1 : S32768x1024.Idx) := by
    blk_ext [e, row]
  rw [hE, out11_apply _ _ _ _ _ _ _ _ _ _ (by rw [coord]; exact lt64 t), prev_eq, next_eq,
    rowU_eq m c t _ y1 (row t y0) (fun k => iblk0_apply m c t y0 k), rowP_eq m c t y0 _ (row t y0) rfl,
    rowP_eq m c t y0 _ (row t y0) rfl, iblk5_eq, iblk6_eq]
  rfl

end Cert.KernelIdeal.Final

end
-- ==== Proof.Ref.lean ====
/-
  The reference's six results as whole-array functions of its arguments at the ideal values: the same functions the
  kernel's result arrays hold.
-/
module

public import proofs.«01_k».proof.Proof.Spec
public import proofs.«01_k».proof.Proof.Gen.ReferenceIdeal.Read
public import Idealize.ShloMosaic.Lib.KernelVsHost

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Read Cert.Proj

variable (x0 : (⟨S32768x1024, .f32⟩ : BufTy).Contents (Elt Ideal)) (x1 : (⟨S1x1024, .f32⟩ : BufTy).Contents (Elt Ideal))
  (x2 : (⟨S1024x7680, .bf16⟩ : BufTy).Contents (Elt Ideal)) (x3 : (⟨S3x1024, .f32⟩ : BufTy).Contents (Elt Ideal))
  (x4 : (⟨S1x1024, .f32⟩ : BufTy).Contents (Elt Ideal))

/-- Two index tuples of rank two with the same coordinates. -/
theorem idx2 {a b : Nat} {i j : (⟨2, ![a, b]⟩ : Shape).Idx} (h0 : (i 0).val = (j 0).val) (h1 : (i 1).val = (j 1).val) : i = j :=
  funext fun d => match d with
    | ⟨0, _⟩ => Fin.ext h0
    | ⟨1, _⟩ => Fin.ext h1

/-- An entry of the normalized input. -/
theorem v12_eq (R : Fin 32768) (k : Fin 1024) :
    val_main_v12 (F := Ideal) x0 x1 (ix2 R k) = nrm (fun j => x0 (ix2 R j)) (fun j => x1 (ix2 0 j)) k := by
  rw [val_main_v12_apply, val_main_v10_apply, val_main_v9_apply, val_main_v8_apply, val_main_v7_apply, val_main_v5_apply,
    val_main_v3_apply, val_main_v4_apply, val_main_v6_apply, val_main_v2_apply, val_main_v11_apply]
  have e : ∀ j, val_main_v1 (F := Ideal) x0 (idx_main_v2 (idx_main_v3 (idx_main_v9 (ix2 R k))) j) = x0 (ix2 R j) * x0 (ix2 R j) := by
    intro j
    rw [show idx_main_v2 (idx_main_v3 (idx_main_v9 (ix2 R k))) j = (ix2 R j : S32768x1024.Idx) from idx2 rfl rfl]
    rfl
  rw [Finset.sum_congr rfl fun j _ => e j, show idx_main_v11 (ix2 R k) = (ix2 0 k : S1x1024.Idx) from idx2 rfl rfl,
    show (val_main_cst (F := Ideal)) (Shape.Idx.first h_S_) = (0 : EReal) from Ideal.ofBits_zero_f32, zero_add]
  rfl

/-- An entry of the combined projection. -/
theorem v13_eq (i : S32768x7680.Idx) : val_main_v13 (F := Ideal) x0 x1 x2 i = proj x0 x1 x2 (i 0) (i 1) := by
  rw [val_main_v13_apply]
  unfold proj rowProj
  refine Finset.sum_congr rfl fun k _ => ?_
  rw [show lidx_main_v13 i k = (ix2 (i 0) k : S32768x1024.Idx) from idx2 rfl rfl, v12_eq x0 x1 (i 0) k,
    show ridx_main_v13 i k = (ix2 k (i 1) : S1024x7680.Idx) from idx2 rfl rfl]
  rfl

/-- The word of one denotes one. -/
theorem one_eq : (FloatOps.ofBits (F := Ideal) .f32 0x3F800000#32) = (1 : EReal) := by
  exact Ideal.ofBits_one_f32

theorem outQ_eq : val_main_v60 (F := Ideal) x0 x1 x2 = outQ x0 x1 x2 := by
  funext i
  rw [val_main_v60_apply, val_main_v59_apply, val_main_v14_apply, v13_eq, val_main_v58_apply]
  rfl

theorem outK_eq : val_main_v61 (F := Ideal) x0 x1 x2 = outK x0 x1 x2 := by
  funext i
  rw [val_main_v61_apply, val_main_v15_apply, v13_eq]
  rfl

theorem outV_eq : val_main_v62 (F := Ideal) x0 x1 x2 = outV x0 x1 x2 := by
  funext i
  rw [val_main_v62_apply, val_main_v16_apply, v13_eq]
  rfl

theorem silu2 (i : S32768x1024.Idx) : val_main_v63 (F := Ideal) x0 x1 x2 i = silu (val_main_v17 (F := Ideal) x0 x1 x2 i) := by
  rw [val_main_v63_apply, val_main_call2_v5_apply, val_main_call2_v4_apply, val_main_call2_v3_apply, val_main_call2_v2_apply,
    val_main_call2_v1_apply, val_main_call2_v0_apply, val_main_call2_cst_apply, val_main_call2_cst_0_apply, one_eq]
  rfl

theorem outZ_eq : val_main_v64 (F := Ideal) x0 x1 x2 = outZ x0 x1 x2 := by
  funext i
  rw [val_main_v64_apply, silu2, val_main_v17_apply, v13_eq]
  rfl

/-- The convolution's input, one sequence per leading index. -/
theorem v24_eq (j : S8x4096x1024.Idx) (R : Fin 32768) (hR : R.val = (j 0).val * 4096 + (j 1).val) :
    val_main_v24 (F := Ideal) x0 x1 x2 j = conv_in x0 x1 x2 R (j 2) := by
  have h0 : (j 0).val < 8 := (j 0).isLt
  have h1 : (j 1).val < 4096 := (j 1).isLt
  have h2 : (j 2).val < 1024 := (j 2).isLt
  rw [val_main_v24_apply, val_main_v23_apply, show idx_main_v24 j = (ix2 R (j 2) : S32768x1024.Idx) from
    idx2 (by show (((j 0).val * 4096 + (j 1).val) * 1024 + (j 2).val) / 1024 = R.val; omega)
      (by show (((j 0).val * 4096 + (j 1).val) * 1024 + (j 2).val) % 1024 = (j 2).val; omega),
    val_main_v19_apply, val_main_v20_apply, v13_eq, v13_eq]
  rfl

/-- The padded input at a row of the sequence itself. -/
theorem v25_in (i : S8x4098x1024.Idx) (j : S8x4096x1024.Idx) (h0 : (i 0).val = (j 0).val) (h1 : (i 1).val = (j 1).val + 1)
    (h2 : (i 2).val = (j 2).val) : val_main_v25 (F := Ideal) x0 x1 x2 i = val_main_v24 (F := Ideal) x0 x1 x2 j := by
  unfold val_main_v25
  refine pad_apply_of_inside _ _ _ _ _ _ _ i j fun a => ?_
  match a with
  | ⟨0, _⟩ => show (i 0).val = 0 + (j 0).val * 1; omega
  | ⟨1, _⟩ => show (i 1).val = 1 + (j 1).val * 1; omega
  | ⟨2, _⟩ => show (i 2).val = 0 + (j 2).val * 1; omega

/-- The padded input is zero before the first row and after the last. -/
theorem v25_out (i : S8x4098x1024.Idx) (h : (i 1).val = 0 ∨ (i 1).val = 4097) : val_main_v25 (F := Ideal) x0 x1 x2 i = 0 := by
  unfold val_main_v25
  rw [pad_apply_of_not_inside _ _ _ _ _ _ _ i 1 (by
    show ¬(1 ≤ (i 1).val ∧ ((i 1).val - 1) % 1 = 0 ∧ ((i 1).val - 1) / 1 < 4096)
    omega), val_main_call0_v0_apply, val_main_c_apply]
  show (((0#32 : BitVec 32).toInt : ℝ) : EReal) = 0
  simp

/-- The convolution at row `R` of the whole array, row `j 1` of sequence `j 0`. -/
theorem v49_eq (j : S8x4096x1024.Idx) (R : Fin 32768) (hR : R.val = (j 0).val * 4096 + (j 1).val) :
    val_main_v49 (F := Ideal) x0 x1 x2 x3 x4 j = conv x0 x1 x2 x3 x4 R (j 2) := by
  have h0 : (j 0).val < 8 := (j 0).isLt
  have h1 : (j 1).val < 4096 := (j 1).isLt
  have h2 : (j 2).val < 1024 := (j 2).isLt
  have hw : ∀ (a b : Nat), a % 1024 = a ∨ 1024 ≤ a := by omega
  have ep : val_main_v28 (F := Ideal) x0 x1 x2 j = conv_prev x0 x1 x2 R (j 2) := by
    rw [val_main_v28_apply]
    unfold conv_prev
    by_cases h : R.val % 4096 = 0
    · rw [dif_pos h, v25_out x0 x1 x2 _ (Or.inl (by show (j 1).val = 0; omega))]
    · rw [dif_neg h, v25_in x0 x1 x2 _ (fun a => match a with
        | ⟨0, _⟩ => j 0
        | ⟨1, _⟩ => (⟨(j 1).val - 1, by omega⟩ : Fin 4096)
        | ⟨2, _⟩ => j 2) rfl (by show (j 1).val = (j 1).val - 1 + 1; omega) rfl,
        v24_eq x0 x1 x2 _ ⟨R.val - 1, by omega⟩ (by show R.val - 1 = (j 0).val * 4096 + ((j 1).val - 1); omega)]
  have en : val_main_v41 (F := Ideal) x0 x1 x2 j = conv_next x0 x1 x2 R (j 2) := by
    rw [val_main_v41_apply]
    unfold conv_next
    by_cases h : R.val % 4096 = 4095
    · rw [dif_pos h, v25_out x0 x1 x2 _ (Or.inr (by show 2 + (j 1).val = 4097; omega))]
    · rw [dif_neg h, v25_in x0 x1 x2 _ (fun a => match a with
        | ⟨0, _⟩ => j 0
        | ⟨1, _⟩ => (⟨(j 1).val + 1, by omega⟩ : Fin 4096)
        | ⟨2, _⟩ => j 2) rfl (by show 2 + (j 1).val = (j 1).val + 1 + 1; omega) rfl,
        v24_eq x0 x1 x2 _ ⟨R.val + 1, by omega⟩ (by show R.val + 1 = (j 0).val * 4096 + ((j 1).val + 1); omega)]
  have ei : val_main_v34 (F := Ideal) x0 x1 x2 j = conv_in x0 x1 x2 R (j 2) := by
    rw [val_main_v34_apply, v25_in x0 x1 x2 _ j rfl (by show 1 + (j 1).val = (j 1).val + 1; omega) rfl, v24_eq x0 x1 x2 j R hR]
  rw [val_main_v49_apply, val_main_v45_apply, val_main_v38_apply, val_main_v31_apply, val_main_v37_apply, val_main_v44_apply, ep, en, ei,
    val_main_v30_apply, val_main_v29_apply, val_main_v27_apply, val_main_v26_apply,
    val_main_v36_apply, val_main_v35_apply, val_main_v33_apply, val_main_v32_apply,
    val_main_v43_apply, val_main_v42_apply, val_main_v40_apply, val_main_v39_apply,
    val_main_v48_apply, val_main_v47_apply, val_main_v46_apply,
    show idx_main_v26 (idx_main_v27 (idx_main_v29 (idx_main_v30 j))) = (ix2 0 (j 2) : S3x1024.Idx) from
      idx2 rfl (Nat.mod_eq_of_lt h2),
    show idx_main_v32 (idx_main_v33 (idx_main_v35 (idx_main_v36 j))) = (ix2 1 (j 2) : S3x1024.Idx) from
      idx2 rfl (Nat.mod_eq_of_lt h2),
    show idx_main_v39 (idx_main_v40 (idx_main_v42 (idx_main_v43 j))) = (ix2 2 (j 2) : S3x1024.Idx) from
      idx2 rfl (Nat.mod_eq_of_lt h2),
    show idx_main_v46 (idx_main_v47 (idx_main_v48 j)) = (ix2 0 (j 2) : S1x1024.Idx) from
      idx2 rfl (Nat.mod_eq_of_lt h2)]
  rfl

theorem silu1 (i : S32768x1024.Idx) : val_main_v52 (F := Ideal) x0 x1 x2 i = silu (val_main_v21 (F := Ideal) x0 x1 x2 i) := by
  rw [val_main_v52_apply, val_main_call1_v5_apply, val_main_call1_v4_apply, val_main_call1_v3_apply, val_main_call1_v2_apply,
    val_main_call1_v1_apply, val_main_call1_v0_apply, val_main_call1_cst_apply, val_main_call1_cst_0_apply, one_eq]
  rfl

theorem outY_eq : val_main_v65 (F := Ideal) x0 x1 x2 x3 x4 = outY x0 x1 x2 x3 x4 := by
  funext i
  have h0 : (i 0).val < 32768 := (i 0).isLt
  have h1 : (i 1).val < 1024 := (i 1).isLt
  rw [val_main_v65_apply, val_main_v53_apply, val_main_v51_apply, val_main_v50_apply, silu1, val_main_v18_apply, val_main_v21_apply,
    v13_eq, v13_eq, v49_eq x0 x1 x2 x3 x4 _ (i 0) (by
      show (i 0).val = ((i 0).val * 1024 + (i 1).val) / 4194304 * 4096 + ((i 0).val * 1024 + (i 1).val) / 1024 % 4096
      omega), show idx_main_v50 i 2 = i 1 from Fin.ext (by
      show ((i 0).val * 1024 + (i 1).val) % 1024 = (i 1).val
      omega)]
  rfl

/-- The row of ones and zeros added to the low-rank gate's inputs. -/
theorem v57_eq : ∀ i : S128.Idx, val_main_v57 (F := Ideal) i = if (i 0).val = 32 ∨ (i 0).val = 33 then (1 : EReal) else 0 := by
  intro i
  have h0 : (i 0).val < 128 := (i 0).isLt
  unfold val_main_v57
  have ez : val_main_cst_2 (F := Ideal) ix0 = (0 : EReal) := Ideal.ofBits_zero_f32
  have e1 : ∀ j, val_main_v55 (F := Ideal) j = (1 : EReal) := fun j => by rw [val_main_v55_apply]; exact one_eq
  have e2 : ∀ j, val_main_v56 (F := Ideal) j = (0 : EReal) := fun j => by rw [val_main_v56_apply]; exact Ideal.ofBits_zero_f32
  pointwise [val_main_v54]
  simp only [ez, e1, e2]
  split_ifs <;> first | rfl | omega

theorem outL_eq : val_main_v68 (F := Ideal) x0 x1 x2 = outL x0 x1 x2 := by
  funext i
  rw [val_main_v68_apply, val_main_v22_apply, v13_eq, val_main_v67_apply, val_main_v66_apply, v57_eq]
  rfl

end Cert.ReferenceIdeal.Ref

end
-- ==== Proof.Regroup.lean ====
/-
  The weight's columns regrouped: what the second kernel's result array holds, and that the second reference's result is
  the same function of the weight, at the ideal values.
-/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Regroup

/-- The weight with its columns regrouped: the queries, keys, values and output gate (3072 columns) where they stand,
    then the convolution's four groups (4096 columns), then the two low-rank gates (32 columns), then zeros. -/
def grouped (w : (⟨3, ![1, 1024, 7200]⟩ : Shape).Idx → EReal) (r : Fin 1024) (n : Fin 7680) : EReal :=
  if h : n.val < 3072 then w (ix3 0 r ⟨n.val, by omega⟩)
  else if h : n.val < 7168 then w (ix3 0 r ⟨n.val + 32, by omega⟩)
  else if h : n.val < 7200 then w (ix3 0 r ⟨n.val - 4096, by omega⟩)
  else 0

/-- A column of the regrouped weight is the column of the weight that the map names. -/
theorem grouped_at (w : (⟨3, ![1, 1024, 7200]⟩ : Shape).Idx → EReal) (r : Fin 1024) (n : Fin 7680) (c : Fin 7200)
    (h : n.val < 3072 ∧ c.val = n.val ∨ (3072 ≤ n.val ∧ n.val < 7168) ∧ c.val = n.val + 32
      ∨ (7168 ≤ n.val ∧ n.val < 7200) ∧ c.val = n.val - 4096) : w (ix3 0 r c) = grouped w r n := by
  unfold grouped
  rcases h with ⟨h, e⟩ | ⟨h, e⟩ | ⟨h, e⟩
  · rw [dif_pos h]
    exact congrArg w (congrArg (ix3 0 r) (Fin.ext e))
  · rw [dif_neg (by omega), dif_pos h.2]
    exact congrArg w (congrArg (ix3 0 r) (Fin.ext e))
  · rw [dif_neg (by omega), dif_neg (by omega), dif_pos h.2]
    exact congrArg w (congrArg (ix3 0 r) (Fin.ext e))

/-- Both branches of a case distinction have the same value. -/
theorem of_branches {α : Type} {p : Prop} [Decidable p] {a : p → α} {b : ¬p → α} {r : α} (ha : ∀ h, a h = r) (hb : ∀ h, b h = r) :
    dite p a b = r := by
  by_cases h : p
  · rw [dif_pos h, ha]
  · rw [dif_neg h, hb]

/-- The regrouped weight as an array. -/
def groupedArr (w : (⟨3, ![1, 1024, 7200]⟩ : Shape).Idx → EReal) : (⟨2, ![1024, 7680]⟩ : Shape).Idx → EReal :=
  fun i => grouped w (i 0) (i 1)

end Cert.Regroup

namespace Cert.Kernel2Ideal.Regroup

open Cert.Kernel2Ideal Cert.Kernel2Ideal.Gen Cert.Regroup

variable (m : (ℓ : Loc nD τ sig) → Buf (Elt Ideal) ℓ) (ρ : Dev nD → PrngReg)

/-- The first kind of block: 512 rows of the transposed weight, transposed. -/
theorem pay1_apply (x : Vec Ideal S1x512x1024 .f32) (r : Fin 1024) (n : Fin 512) :
    k0_pay1 x (ix2 r n) = x (ix3 0 n r) := by
  pointwise [k0_pay1]

/-- The second kind of block: 480 rows, then the 32 rows after them. -/
theorem pay2_apply (x : Vec Ideal S1x480x1024 .f32) (y : Vec Ideal S1x32x1024 .f32) (r : Fin 1024) (n : Fin 512) :
    k0_pay2 x y (ix2 r n) = if h : n.val < 480 then x (ix3 0 ⟨n.val, h⟩ r) else y (ix3 0 ⟨n.val - 480, by omega⟩ r) := by
  pointwise [k0_pay2]

/-- The last block: 32 rows, then zeros. -/
theorem pay3_apply (x : Vec Ideal S1x32x1024 .f32) (r : Fin 1024) (n : Fin 512) :
    k0_pay3 x (ix2 r n) = if h : n.val < 32 then x (ix3 0 ⟨n.val, h⟩ r) else 0 := by
  pointwise [k0_pay3]

/-- The transposed weight, read at an index. -/
theorem wt_apply (c : Dev nD) (n : Fin 7200) (r : Fin 1024) :
    V m c main_v0 (ix3 0 n r) = m ((c : Thread nD τ).loc main_arg0) (ix3 0 r n) := by
  have e : V m c main_v0 = transpose S1x7200x1024 [0, 2, 1] (m ((c : Thread nD τ).loc main_arg0)) transposes_S1x1024x7200_S1x7200x1024_0_2_1 := by
    unfold V; after_results <;> rfl
  rw [e]
  pointwise

/-- The windows' block indices at a grid point. -/
theorem idx : ∀ t : Fin cfg0.N, win0_0.index t = ![0, if t.val = 14 then 6 else t.val, 0]
    ∧ win0_1.index t = ![0, min (16 * (t.val + 1)) 224, 0] ∧ win0_2.index t = ![0, t.val] :=
  (by decide +kernel : ∀ t : Fin grid0.N, _)

/-- There are 15 points. -/
theorem lt15 (t : Fin cfg0.N) : t.val < 15 := lt_of_lt_of_eq t.isLt N_0

/-- Row `a` of the first window's block, before the last point and at it. -/
theorem x0_apply (c : Dev nD) (t : Fin cfg0.N) (a : Fin 512) (k : Fin 1024) (n : Fin 7200)
    (hn : n.val = 512 * (if t.val = 14 then 6 else t.val) + a.val) :
    X0_0 m c t (ix3 0 a k) = m ((c : Thread nD τ).loc main_arg0) (ix3 0 k n) := by
  have e := (idx t).1
  rw [← wt_apply m c n k]
  unfold X0_0 Pipeline.Window.fill
  rw [dif_pos (moved0_0 t _)]
  blk_ext [iblk, e, hn]

/-- The second window's block, where it is read. -/
theorem x1_apply (c : Dev nD) (t : Fin cfg0.N) (ht : t.val < 14) (a : Fin 32) (k : Fin 1024) (n : Fin 7200)
    (hn : n.val = 512 * (t.val + 1) + a.val) :
    iblk m c 1 t (ix3 0 a k) = m ((c : Thread nD τ).loc main_arg0) (ix3 0 k n) := by
  have e := (idx t).2.1
  rw [← wt_apply m c n k]
  blk_ext [iblk, e, hn]

/-- The result array. -/
theorem final2 (c : Dev nD) : (dats m 0 c).arrAt 2 cfg0.N = groupedArr (m ((c : Thread nD τ).loc main_arg0)) := by
  refine (dats m 0 c).arrAt_eq_of_covers 2 _ (by decide +kernel) fun t hf y => ?_
  have e := (idx t).2.2
  have hlt := lt15 t
  blk_simp
  rw [after0_2]
  idx_vars y
  have hE : (win0_2.blk t).view.emb (ix2 y0 y1) = (ix2 y0 ⟨512 * t.val + y1.val, by omega⟩ : S1024x7680.Idx) := by
    blk_ext [e]
  rw [hE]
  show _ = grouped _ y0 ⟨512 * t.val + y1.val, by omega⟩
  unfold grouped
  dsimp only
  by_cases h0 : t.val < 6
  · have n0 : 512 * t.val + y1.val < 3072 := by omega
    rw [dif_pos n0, outsAt0_A m c t h0 (by omega) (by omega)]
    frame_out
    rw [pay1_apply]
    exact x0_apply m c t y1 y0 _ (by dsimp only; rw [if_neg (by omega)])
  · have n0 : ¬ 512 * t.val + y1.val < 3072 := by omega
    rw [dif_neg n0]
    by_cases h1 : t.val < 14
    · have n1 : 512 * t.val + y1.val < 7168 := by omega
      rw [dif_pos n1, outsAt0_B m c t h0 (by omega) (by omega)]
      frame_out
      rw [pay2_apply]
      by_cases hy : y1.val < 480
      · rw [dif_pos hy]
        have := x0_apply m c t ⟨y1.val + 32, by omega⟩ y0 ⟨512 * t.val + y1.val + 32, by omega⟩ (by dsimp only; rw [if_neg (by omega)]; omega)
        rw [← this]
        refine congrArg (X0_0 m c t) ?_
        funext a
        refine Fin.ext ?_
        fin_cases a
        · rfl
        · show 32 + 1 * y1.val = y1.val + 32
          omega
        · show 0 + 1 * y0.val = y0.val
          omega
      · rw [dif_neg hy]
        exact x1_apply m c t h1 _ y0 _ (by dsimp only; omega)
    · have n1 : ¬ 512 * t.val + y1.val < 7168 := by omega
      rw [dif_neg n1, outsAt0_C m c t h0 (by omega) (by omega)]
      frame_out
      rw [pay3_apply]
      by_cases hy : y1.val < 32
      · have n2 : 512 * t.val + y1.val < 7200 := by omega
        rw [dif_pos hy, dif_pos n2]
        have := x0_apply m c t ⟨y1.val, by omega⟩ y0 ⟨512 * t.val + y1.val - 4096, by omega⟩ (by dsimp only; rw [if_pos (by omega)]; omega)
        rw [← this]
        refine congrArg (X0_0 m c t) ?_
        funext a
        refine Fin.ext ?_
        fin_cases a
        · rfl
        · show 0 + 1 * y1.val = y1.val
          omega
        · show 0 + 1 * y0.val = y0.val
          omega
      · have n2 : ¬ 512 * t.val + y1.val < 7200 := by omega
        rw [dif_neg hy, dif_neg n2]

end Cert.Kernel2Ideal.Regroup

namespace Cert.Reference2Ideal.Regroup

open Cert.Reference2Ideal Cert.Reference2Ideal.Read Cert.Regroup

/-- The reference's result. -/
theorem ref_eq (w : (⟨S1x1024x7200, .f32⟩ : BufTy).Contents (Elt Ideal)) : val_main_v13 (F := Ideal) w = groupedArr w := by
  funext i
  idx_vars i
  show _ = grouped w i0 i1
  pointwise [val_main_v13, val_main_v12, val_main_v11, val_main_v10, val_main_v9, val_main_v8, val_main_v7, val_main_v6, val_main_v5,
    val_main_v4, val_main_v3, val_main_v2, val_main_v1, val_main_v0, val_main_cst]
  iterate 10 refine of_branches (fun h => grouped_at w i0 i1 _ (by dsimp only; omega)) fun h => ?_
  unfold grouped
  rw [dif_neg (by omega), dif_neg (by omega), dif_neg (by omega)]

end Cert.Reference2Ideal.Regroup

end
-- ==== Proof.Gla.lean ====
/-
  Gated linear attention in chunks of 64 rows, as plain functions on the extended reals: the log decay, its cumulative sum
  within a chunk, what a chunk contributes to the output and to the state, the state at each chunk, and the whole result.
  Below them, the facts about the log decay that make the two programs' forms of it the same.
-/
module

public import Idealize.ShloMosaic.Lib.Pointwise
public import Idealize.ShloMosaic.Lib.KernelVsHost

@[expose] public section

noncomputable section

open Idealize.ShloMosaic

namespace Cert.Gla

/-- The log decay of a gate's logit: the log of its logistic function, over 16. -/
def decay (x : EReal) : EReal :=
  (min x 0 - Ideal.log1p (Ideal.exp (0 - max x (-x)))) * Ideal.ofBits .f32 0x3D800000#32

/-- A matrix's entry at two numbers, zero outside it. -/
def at2 {R C : ℕ} (X : (⟨2, ![R, C]⟩ : Shape).Idx → EReal) (r e : ℕ) : EReal :=
  if h : r < R ∧ e < C then X (ix2 ⟨r, h.1⟩ ⟨e, h.2⟩) else 0

/-- Inside the matrix it is the entry. -/
theorem at2_eq {R C : ℕ} (X : (⟨2, ![R, C]⟩ : Shape).Idx → EReal) {r e : ℕ} (hr : r < R) (he : e < C) :
    at2 X r e = X (ix2 ⟨r, hr⟩ ⟨e, he⟩) := dif_pos ⟨hr, he⟩

/-- The rectangle of a table that starts at row `a`, column `b`. -/
def tile (X : ℕ → ℕ → EReal) (a b : ℕ) {m n : ℕ} (j : Fin m) (d : Fin n) : EReal := X (a + j) (b + d)

/-- The log decays summed from the start of the chunk at row `a` up to row `j` of it. -/
def cum (g : ℕ → ℕ → EReal) (a b : ℕ) (j : Fin 64) (d : Fin 128) : EReal :=
  ∑ i : Fin 64, if i.val ≤ j.val then g (a + i) (b + d) else 0

/-- What a chunk leaves in the output: the masked products within the chunk, and the queries against the state before it. -/
def chunkO (b q k : Fin 64 → Fin 128 → EReal) (v : Fin 64 → Fin 256 → EReal) (s : Fin 128 → Fin 256 → EReal)
    (j : Fin 64) (e : Fin 256) : EReal :=
  (∑ i : Fin 64, (if i.val ≤ j.val then
      ∑ d : Fin 128, (q j d * Ideal.exp (b j d - b 32 d)) * (k i d * Ideal.exp (b 32 d - b i d)) else 0) * v i e)
    + ∑ d : Fin 128, (q j d * Ideal.exp (b j d)) * s d e

/-- The state after a chunk: the state before it, decayed, and the chunk's keys against its values. -/
def chunkS (b k : Fin 64 → Fin 128 → EReal) (v : Fin 64 → Fin 256 → EReal) (s : Fin 128 → Fin 256 → EReal)
    (d : Fin 128) (e : Fin 256) : EReal :=
  Ideal.exp (b 63 d) * s d e + ∑ i : Fin 64, (k i d * Ideal.exp (b 63 d - b i d)) * v i e

/-- The state of head `h` after `n` chunks counted from chunk `m`. -/
def state (g k v : ℕ → ℕ → EReal) (h m : ℕ) : ℕ → Fin 128 → Fin 256 → EReal
  | 0 => fun _ _ => 0
  | n + 1 => chunkS (cum g (64 * (m + n)) (128 * h)) (tile k (64 * (m + n)) (128 * h)) (tile v (64 * (m + n)) (256 * h))
      (state g k v h m n)

/-- Head `h`'s output in chunk `m + n`, the state counted from chunk `m`. -/
def outC (q k v g : ℕ → ℕ → EReal) (h m n : ℕ) : Fin 64 → Fin 256 → EReal :=
  chunkO (cum g (64 * (m + n)) (128 * h)) (tile q (64 * (m + n)) (128 * h)) (tile k (64 * (m + n)) (128 * h))
    (tile v (64 * (m + n)) (256 * h)) (state g k v h m n)

/-- The whole result: 8 sequences of 64 chunks of 64 rows, 4 heads of 256 columns. -/
def out (q k v g : ℕ → ℕ → EReal) (r : Fin 32768) (e : Fin 1024) : EReal :=
  outC q k v g (e.val / 256) (64 * (r.val / 4096)) (r.val / 64 % 64) ⟨r.val % 64, by omega⟩ ⟨e.val % 256, by omega⟩

/-- The logits: the first 16 low-rank columns against the gate's weight, and the bias. -/
def logit (lr : (⟨2, ![32768, 128]⟩ : Shape).Idx → EReal) (w : (⟨3, ![1, 16, 512]⟩ : Shape).Idx → EReal)
    (bg : (⟨2, ![1, 512]⟩ : Shape).Idx → EReal) (r : Fin 32768) (e : Fin 512) : EReal :=
  (∑ i : Fin 16, lr (ix2 r ⟨i.val, by omega⟩) * w (ix3 0 i e)) + bg (ix2 0 e)

/-- The log decays as a matrix. -/
def gate (lr : (⟨2, ![32768, 128]⟩ : Shape).Idx → EReal) (w : (⟨3, ![1, 16, 512]⟩ : Shape).Idx → EReal)
    (bg : (⟨2, ![1, 512]⟩ : Shape).Idx → EReal) : (⟨2, ![32768, 512]⟩ : Shape).Idx → EReal :=
  fun i => decay (logit lr w bg (i 0) (i 1))

/-- The whole result of the six arguments. -/
def result (q k : (⟨2, ![32768, 512]⟩ : Shape).Idx → EReal) (v : (⟨2, ![32768, 1024]⟩ : Shape).Idx → EReal)
    (lr : (⟨2, ![32768, 128]⟩ : Shape).Idx → EReal) (w : (⟨3, ![1, 16, 512]⟩ : Shape).Idx → EReal)
    (bg : (⟨2, ![1, 512]⟩ : Shape).Idx → EReal) : (⟨2, ![32768, 1024]⟩ : Shape).Idx → EReal :=
  fun i => out (at2 q) (at2 k) (at2 v) (at2 (gate lr w bg)) (i 0) (i 1)

/-! ## The log decay -/

/-- The second term of the log decay is a real number, not negative. -/
theorem soft_real (x : EReal) : ∃ l : ℝ, 0 ≤ l ∧ Ideal.log1p (Ideal.exp (0 - max x (-x))) = (l : EReal) := by
  have key : ∀ r : ℝ, 0 ≤ r → ∃ l : ℝ, 0 ≤ l ∧ Ideal.log1p (r : EReal) = (l : EReal) := by
    intro r hr
    refine ⟨Real.log (1 + r), Real.log_nonneg (by linarith), ?_⟩
    show Ideal.log (1 + (r : EReal)) = _
    have e : (1 : EReal) + (r : EReal) = ((1 + r : ℝ) : EReal) := by norm_cast
    rw [e]
    show (if 1 + r ≤ 0 then (⊥ : EReal) else (Real.log (1 + r) : EReal)) = _
    rw [if_neg (by linarith)]
  induction x with
  | bot =>
    have e : (0 : EReal) - max ⊥ (-⊥) = ⊥ := by simp
    rw [e]
    exact key 0 le_rfl
  | top =>
    have e : (0 : EReal) - max ⊤ (-⊤) = ⊥ := by simp
    rw [e]
    exact key 0 le_rfl
  | coe r =>
    have e : (0 : EReal) - max (r : EReal) (-(r : EReal)) = ((-|r| : ℝ) : EReal) := by
      have : max (r : EReal) (-(r : EReal)) = ((max r (-r) : ℝ) : EReal) := by
        rw [← EReal.coe_neg]; exact (EReal.coe_strictMono.monotone.map_max).symm
      rw [this, zero_sub, ← EReal.coe_neg]
      rfl
    rw [e]
    exact key (Real.exp (-|r|)) (Real.exp_pos _).le

/-- One sixteenth, as the kernel writes it. -/
theorem sixteenth : Ideal.ofBits .f32 0x3D800000#32 = ((1 / 16 : ℝ) : EReal) := by
  simp [Ideal.ofBits, Ideal.ieee]
  norm_num
  exact_mod_cast (by norm_num : (8388608 : ℝ) * (1 / 134217728) = 1 / 16)

/-- Sixteen, as the reference writes it. -/
theorem sixteen : Ideal.ofBits .f32 0x41800000#32 = ((16 : ℝ) : EReal) := by
  simp [Ideal.ofBits, Ideal.ieee]
  norm_num
  exact_mod_cast (by norm_num : (8388608 : ℝ) * (1 / 524288) = 16)

/-- The log decay is never plus infinity. -/
theorem decay_ne_top (x : EReal) : decay x ≠ ⊤ := by
  obtain ⟨l, hl, e⟩ := soft_real x
  unfold decay
  rw [e, sixteenth]
  have hm : min x 0 ≤ 0 := min_le_right _ _
  induction hx : min x 0 with
  | bot =>
    rw [EReal.bot_sub, EReal.bot_mul_coe_of_pos (by norm_num)]
    exact bot_ne_top
  | top => rw [hx] at hm; exact absurd hm (by simp)
  | coe r =>
    rw [← EReal.coe_sub, ← EReal.coe_mul]
    exact EReal.coe_ne_top _

/-- A value that is not plus infinity and its difference from itself: the value. -/
theorem add_self_sub {g : EReal} (hg : g ≠ ⊤) : g + (g - g) = g := by
  induction g with
  | bot => simp
  | top => exact absurd rfl hg
  | coe r => rw [← EReal.coe_sub, ← EReal.coe_add]; congr 1; ring

end Cert.Gla

end
-- ==== Proof.GlaPay.lean ====
/-
  The attention kernel's stored values read at an index, at the ideal values: the log decays, their sums within a chunk, and a
  head's output and state at one chunk, over any operands.
-/
module

public import proofs.«01_k».proof.Proof.Gla
public import proofs.«01_k».proof.Proof.Gen.Kernel3Ideal.Skeleton
public import Idealize.ShloMosaic.Lib.Pointwise
public import Idealize.ShloMosaic.Lib.KernelVsHost
public import Idealize.ShloMosaic.Lib.WordCmp

@[expose] public section

set_option maxRecDepth 16384

noncomputable section

open Idealize.ShloMosaic

namespace Cert.Kernel3Ideal.Pay

open Cert.Kernel3Ideal Cert.Kernel3Ideal.Gen Cert.Gla

/-- The log decays of a block. -/
theorem pay4_apply (x : Vec Ideal S256x128 .f32) (w : Vec Ideal S128x512 .bf16) (b : Vec Ideal S1x512 .f32) (r : Fin 256) (e : Fin 512) :
    k0_pay4 (F := Ideal) x w b (ix2 r e) = decay ((∑ i : Fin 128, x (ix2 r i) * w (ix2 i e)) + b (ix2 0 e)) := by
  pointwise [k0_pay4, decay]
  rfl

/-- The chunk's number of a row of the block, as the kernel computes it with floor division on words. -/
abbrev chunkWord (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

/-- It is the quotient by 64. -/
theorem chunkWord_eq : ∀ n : Fin 256, chunkWord n.val = BitVec.ofNat 32 (n.val / 64) := by decide +kernel

/-- Two words of small numbers, compared for equality. -/
theorem small_eq (a b : ℕ) (ha : a < 256) (hb : b < 256) :
    IntOp.cmpi CmpIPredicate.eq (BitVec.ofNat 32 a) (BitVec.ofNat 32 b) = if a = b then 1#1 else 0#1 := by
  rw [Idealize.ShloMosaic.WordCmp.cmpi_eq_ofNat (by norm_num; omega) (by norm_num; omega)]
  by_cases h : a = b <;> simp [h]

/-- Two words of small numbers, compared for order. -/
theorem small_sle (a b : ℕ) (ha : a < 256) (hb : b < 256) :
    IntOp.cmpi CmpIPredicate.sle (BitVec.ofNat 32 a) (BitVec.ofNat 32 b) = if a ≤ b then 1#1 else 0#1 := by
  rw [Idealize.ShloMosaic.WordCmp.cmpi_sle_ofNat (by norm_num; omega) (by norm_num; omega)]
  by_cases h : a ≤ b <;> simp [h]

/-- The two triangular products of a block's values, none of them plus infinity: their sum within the row's chunk, up to the row. -/
theorem pay7_apply (g : Vec Ideal S256x512 .f32) (hg : ∀ i, g i ≠ (⊤ : EReal)) (r : Fin 256) (e : Fin 512) :
    k0_pay7 (F := Ideal) g (iota .tc S256x256 32 [0] iota_S256x256_d0_w32) (iota .tc S256x256 32 [1] iota_S256x256_d1_w32) 64#32
      k0_pay5 k0_pay6 (ix2 r e)
      = ∑ x : Fin 256, if x.val / 64 = r.val / 64 ∧ x.val ≤ r.val then g (ix2 x e) else 0 := by
  have hm : ∀ x : Fin 256, IntOp.andi (IntOp.cmpi CmpIPredicate.eq (chunkWord r.val) (chunkWord x.val))
      (IntOp.cmpi CmpIPredicate.sle (BitVec.ofNat 32 x.val) (BitVec.ofNat 32 r.val))
      = if x.val / 64 = r.val / 64 ∧ x.val ≤ r.val then 1#1 else 0#1 := by
    intro x
    rw [chunkWord_eq, chunkWord_eq, small_eq _ _ (by omega) (by omega), small_sle _ _ x.isLt r.isLt]
    by_cases h1 : x.val / 64 = r.val / 64 <;> by_cases h2 : x.val ≤ r.val <;> simp [h1, h2, Ne.symm, eq_comm, IntOp.andi]
  pointwise [k0_pay7, k0_pay5, k0_pay6]
  simp only [hm]
  rw [← Finset.sum_add_distrib]
  refine Finset.sum_congr rfl fun x _ => ?_
  by_cases h : x.val / 64 = r.val / 64 ∧ x.val ≤ r.val
  · rw [if_pos h, if_pos h]
    exact add_self_sub (hg _)
  · rw [if_neg h, if_neg h]
    exact add_zero _

/-- A head's output at one chunk. -/
theorem out_at (B Q K : FVec Ideal S64x128 .f32) (V : Vec Ideal S64x256 .bf16) (S : Vec Ideal S1x128x256 .f32)
    {b q k : Fin 64 → Fin 128 → EReal} {v : Fin 64 → Fin 256 → EReal} {s : Fin 128 → Fin 256 → EReal}
    (hS : ∀ d e, S (ix3 0 d e) = s d e) (hB : ∀ j d, B (ix2 j d) = b j d) (hQ : ∀ j d, Q (ix2 j d) = q j d) (hK : ∀ j d, K (ix2 j d) = k j d)
    (hV : ∀ j e, V (ix2 j e) = v j e) (x : S64x256.Idx) :
    truncf .bf16 (addf
      (matmul (φ₂ := .bf16) dot_S64x64_S64x256_S64x256_1_0_0_1_n_n none
        (truncf .bf16 (select (cmpi .sle (iota .tc S64x64 32 [1] iota_S64x64_d1_w32) (iota .tc S64x64 32 [0] iota_S64x64_d0_w32))
          (matmul dot_S64x128_S64x128_S64x64_1_1_0_0_n_n none
            (truncf .bf16 (mulf Q (exp (subf B (broadcastTo S64x128 (extractStridedSlice S1x128 ![32, 0] B slices_S64x128_o32_0_S1x128) broadcasts_S1x128_S64x128)))) bitsLt_bf16_f32)
            (truncf .bf16 (mulf K (exp (subf (broadcastTo S64x128 (extractStridedSlice S1x128 ![32, 0] B slices_S64x128_o32_0_S1x128) broadcasts_S1x128_S64x128) B))) bitsLt_bf16_f32)
            (constant S64x64 .f32 0x00000000#32))
          (broadcast S64x64 (Scalar.ofBits .f32 0x00000000#32))) bitsLt_bf16_f32)
        V (constant S64x256 .f32 0x00000000#32))
      (matmul dot_S64x128_S128x256_S64x256_1_0_0_1_n_n none (truncf .bf16 (mulf Q (exp B)) bitsLt_bf16_f32)
        (truncf .bf16 (shapeCast S128x256 S shapeCasts_S1x128x256_S128x256) bitsLt_bf16_f32)
        (constant S64x256 .f32 0x00000000#32))) bitsLt_bf16_f32 x
      = chunkO b q k v s (x 0) (x 1) := by
  pointwise [chunkO, hB, hQ, hK, hV, hS]
  refine congrArg (· + _) (Finset.sum_congr rfl fun i _ => ?_)
  have hj : (x 0).val < 64 := (x 0).isLt
  rw [small_sle i.val (x 0).val (by omega) (by omega)]
  by_cases h : i.val ≤ (x 0).val
  · rw [if_pos h, if_pos h]; rfl
  · rw [if_neg h, if_neg h, zero_mul]; rfl

/-- A head's state after one chunk. -/
theorem state_at (B K : FVec Ideal S64x128 .f32) (D : FVec Ideal S128x1 .f32) (V : Vec Ideal S64x256 .bf16) (S : Vec Ideal S1x128x256 .f32)
    {b k : Fin 64 → Fin 128 → EReal} {v : Fin 64 → Fin 256 → EReal} {s : Fin 128 → Fin 256 → EReal}
    (hS : ∀ d e, S (ix3 0 d e) = s d e) (hB : ∀ j d, B (ix2 j d) = b j d) (hD : ∀ d, D (ix2 d 0) = b 63 d) (hK : ∀ j d, K (ix2 j d) = k j d)
    (hV : ∀ j e, V (ix2 j e) = v j e) (d : Fin 128) (e : Fin 256) :
    shapeCast S1x128x256 (addf
      (mulf (broadcastTo S128x256 (exp D) broadcasts_S128x1_S128x256) (shapeCast S128x256 S shapeCasts_S1x128x256_S128x256))
      (matmul (φ₂ := .bf16) dot_S64x128_S64x256_S128x256_0_0_1_1_n_n none
        (truncf .bf16 (mulf K (exp (subf (broadcastTo S64x128 (extractStridedSlice S1x128 ![63, 0] B slices_S64x128_o63_0_S1x128) broadcasts_S1x128_S64x128) B))) bitsLt_bf16_f32)
        V (constant S128x256 .f32 0x00000000#32))) shapeCasts_S128x256_S1x128x256 (ix3 0 d e)
      = chunkS b k v s d e := by
  pointwise [chunkS, hB, hD, hK, hV, hS]

end Cert.Kernel3Ideal.Pay

end
-- ==== Proof.GlaBlock.lean ====
/-
  What one grid point of the attention kernel leaves in the output's staging buffer and in the carried state, as the plain
  functions of the point's blocks and of the state before it.
-/
module

public import proofs.«01_k».proof.Proof.GlaPay
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Block

open Cert.Kernel3Ideal Cert.Kernel3Ideal.Gen Cert.Kernel3Ideal.Pay Cert.Gla

/-- The state of head `h` after `n` chunks of a point, over the tables of the decays' sums, keys and values. -/
def blkS (b k v : ℕ → ℕ → EReal) (h : ℕ) (s : Fin 128 → Fin 256 → EReal) : ℕ → Fin 128 → Fin 256 → EReal
  | 0 => s
  | n + 1 => chunkS (tile b (64 * n) (128 * h)) (tile k (64 * n) (128 * h)) (tile v (64 * n) (256 * h)) (blkS b k v h s n)

/-- Head `h`'s output in chunk `n` of a point. -/
def blkO (b q k v : ℕ → ℕ → EReal) (h : ℕ) (s : Fin 128 → Fin 256 → EReal) (n : ℕ) : Fin 64 → Fin 256 → EReal :=
  chunkO (tile b (64 * n) (128 * h)) (tile q (64 * n) (128 * h)) (tile k (64 * n) (128 * h)) (tile v (64 * n) (256 * h))
    (blkS b k v h s n)

section Point

variable (c : Dev nD) (i : grid0.Coords)
  (a0 : Memref sig .tc .vmem S256x512 .bf16) (w0 : a0.IsWhole) (a1 : Memref sig .tc .vmem S256x512 .bf16) (w1 : a1.IsWhole)
  (a2 : Memref sig .tc .vmem S256x1024 .bf16) (w2 : a2.IsWhole) (a3 : Memref sig .tc .vmem S256x128 .f32) (w3 : a3.IsWhole)
  (a4 : Memref sig .tc .vmem S128x512 .bf16) (w4 : a4.IsWhole) (a5 : Memref sig .tc .vmem S1x512 .f32) (w5 : a5.IsWhole)
  (a6 : Memref sig .tc .vmem S256x1024 .bf16) (w6 : a6.IsWhole) (a7 : Memref sig .tc .vmem S4x128x256 .f32) (w7 : a7.IsWhole)
  (x0 x1 : Vec Ideal S256x512 .bf16) (x2 : Vec Ideal S256x1024 .bf16) (x3 : Vec Ideal S256x128 .f32)
  (x4 : Vec Ideal S128x512 .bf16) (x5 : Vec Ideal S1x512 .f32) (X : Vec Ideal S4x128x256 .f32)

/-- The sums of the log decays of a block. -/
def sums : Vec Ideal S256x512 .f32 :=
  k0_pay7 (k0_pay4 x3 x4 x5) (iota .tc S256x256 32 [0] iota_S256x256_d0_w32) (iota .tc S256x256 32 [1] iota_S256x256_d1_w32)
    64#32 k0_pay5 k0_pay6

/-- The kernel's zero. -/
theorem ofBits_zero : (Scalar.ofBits .f32 0x00000000#32 : Ideal .f32) = (0 : EReal) := by
  show Ideal.ofBits .f32 0x00000000#32 = 0
  simp [Ideal.ofBits, Ideal.ieee]

/-- A stored state read at an index is the load of its head's slab. -/
theorem slab (L : List (View.Piece (Elt Ideal) S4x128x256 .f32)) (h : Fin 4) (off : Fin 3 → ℕ)
    (inb : ∀ a, off a + ![1, 128, 256] a ≤ S4x128x256.size a) (ho : off = ![h.val, 0, 0]) (d : Fin 128) (e : Fin 256) :
    View.canon L (ix3 h d e)
      = a7.view.readCov (Val := Elt Ideal) L (Rect.unit (s := S4x128x256) off ![1, 128, 256] inb).toLoadRect (ix3 0 d e) := by
  subst ho
  rw [View.readCov_eq_canon']
  refine congrArg (View.canon L) (funext fun a => Fin.ext ?_)
  fin_cases a
  · rfl
  · exact ((Nat.zero_add _).trans (Nat.one_mul _)).symm
  · exact ((Nat.zero_add _).trans (Nat.one_mul _)).symm

/-- The output's value at an index of the block, from a state before. -/
def blkOut (s : ℕ → Fin 128 → Fin 256 → EReal) (y : S256x1024.Idx) : EReal :=
  blkO (at2 (sums x3 x4 x5)) (at2 x0) (at2 x1) (at2 x2) ((y 1).val / 256) (s ((y 1).val / 256)) ((y 0).val / 64)
    ⟨(y 0).val % 64, by omega⟩ ⟨(y 1).val % 256, by omega⟩

set_option maxHeartbeats 8000000 in
/-- The output's block after a point: a sequence's first point starts from zero, another from the state `X`. -/
theorem out_point (y : S256x1024.Idx) :
    (∀ hc : cond0_0 i, out0_A_6 c i a0 w0 a1 w1 a2 w2 a3 w3 a4 w4 a5 w5 a6 w6 a7 w7 hc x0 x1 x2 x3 x4 x5 y
      = blkOut x0 x1 x2 x3 x4 x5 (fun _ _ _ => 0) y)
    ∧ (∀ hc : ¬cond0_0 i, out0_B_6 c i a0 w0 a1 w1 a2 w2 a3 w3 a4 w4 a5 w5 a6 w6 a7 w7 hc x0 x1 x2 x3 x4 x5 X y
      = blkOut x0 x1 x2 x3 x4 x5 (fun h d e => X (ix3 (Fin.ofNat 4 h) d e)) y) := by
  unfold blkOut sums
  constructor <;> intro hc
  all_goals
    frame_out [View.readCov_cons_toLoadRect, ↓View.readCov_skip, ↓View.readCov_fill]
    generalize k0_pay7 (F := Ideal) _ _ _ _ _ _ = T
    clear hc
    canon_tiles x g
  all_goals
    (have e0 : (⟨(y 0).val % 64, by omega⟩ : Fin 64) = x 0 := Fin.ext (by dsimp only; omega)
     have e1 : (⟨(y 1).val % 256, by omega⟩ : Fin 256) = x 1 := Fin.ext (by dsimp only; omega)
     rw [e0, e1]; clear e0 e1
     first
      | rw [show (y 0).val / 64 = 0 by omega]
      | rw [show (y 0).val / 64 = 1 by omega]
      | rw [show (y 0).val / 64 = 2 by omega]
      | rw [show (y 0).val / 64 = 3 by omega]
     first
      | rw [show (y 1).val / 256 = 0 by omega]
      | rw [show (y 1).val / 256 = 1 by omega]
      | rw [show (y 1).val / 256 = 2 by omega]
      | rw [show (y 1).val / 256 = 3 by omega]
     clear g0 g1
     refine out_at _ _ _ _ _ ?_ ?_ ?_ ?_ ?_ x
     iterate 3 (first | (intro d e; refine state_at _ _ _ _ _ ?_ ?_ ?_ ?_ ?_ d e) | skip)
     · intro d e
       first
         | exact ofBits_zero
         | (refine congrArg X (funext fun a => Fin.ext ?_)
            fin_cases a
            · rfl
            · exact (Nat.zero_add _).trans (Nat.one_mul _)
            · exact (Nat.zero_add _).trans (Nat.one_mul _))
     all_goals
       (intro j
        try intro d
        simp only [tile, Nat.reduceMul]
        rw [at2_eq _ (by omega) (by omega)]
        pointwise [
        k0_pay9, k0_pay10, k0_pay11, k0_pay12, k0_pay13, k0_pay14, k0_pay15, k0_pay21, k0_pay22, k0_pay23, k0_pay26, k0_pay29,
        k0_pay30, k0_pay32, k0_pay36, k0_pay37, k0_pay38, k0_pay40, k0_pay45, k0_pay46, k0_pay47, k0_pay48, k0_pay49, k0_pay50,
        k0_pay51, k0_pay56, k0_pay59, k0_pay60, k0_pay61, k0_pay65, k0_pay68, k0_pay69, k0_pay70, k0_pay71, k0_pay76, k0_pay79,
        k0_pay80, k0_pay81, k0_pay82, k0_pay87, k0_pay90, k0_pay91, k0_pay92, k0_pay93, k0_pay94, k0_pay95, k0_pay96, k0_pay97,
        k0_pay98, k0_pay100, k0_pay103, k0_pay104, k0_pay105, k0_pay106, k0_pay107, k0_pay109, k0_pay112, k0_pay113, k0_pay114,
        k0_pay115, k0_pay116, k0_pay117, k0_pay120, k0_pay121, k0_pay122, k0_pay123, k0_pay124, k0_pay125, k0_pay128, k0_pay129,
        k0_pay130, k0_pay131, k0_pay132, k0_pay133, k0_pay134, k0_pay137, k0_pay139, k0_pay140, k0_pay141, k0_pay144, k0_pay146,
        k0_pay147, k0_pay148, k0_pay151, k0_pay153, k0_pay154, k0_pay155]))

set_option maxHeartbeats 8000000 in
/-- The state after a point, from zero at a sequence's first point, else from the state `X`. -/
theorem state_point (h : Fin 4) (d : Fin 128) (e : Fin 256) :
    (∀ hc : cond0_0 i, sout0_A_0 c i a0 w0 a1 w1 a2 w2 a3 w3 a4 w4 a5 w5 a6 w6 a7 w7 hc x0 x1 x2 x3 x4 x5 (ix3 h d e)
      = blkS (at2 (sums x3 x4 x5)) (at2 x1) (at2 x2) h.val (fun _ _ => 0) 4 d e)
    ∧ (∀ hc : ¬cond0_0 i, sout0_B_0 c i a0 w0 a1 w1 a2 w2 a3 w3 a4 w4 a5 w5 a6 w6 a7 w7 hc x0 x1 x2 x3 x4 x5 X (ix3 h d e)
      = blkS (at2 (sums x3 x4 x5)) (at2 x1) (at2 x2) h.val (fun d e => X (ix3 (Fin.ofNat 4 h.val) d e)) 4 d e) := by
  unfold sums
  constructor <;> intro hc
  all_goals
    frame_out [View.readCov_cons_toLoadRect, ↓View.readCov_skip, ↓View.readCov_fill]
    generalize k0_pay7 (F := Ideal) _ _ _ _ _ _ = T
    clear hc
    obtain ⟨h, hh⟩ := h
    interval_cases h
  all_goals
    (first
      | rw [slab a7 _ ⟨0, hh⟩ ![0, 0, 0] inb_S4x128x256_S1x128x256_0_0_0 rfl]
      | rw [slab a7 _ ⟨1, hh⟩ ![1, 0, 0] inb_S4x128x256_S1x128x256_1_0_0 rfl]
      | rw [slab a7 _ ⟨2, hh⟩ ![2, 0, 0] inb_S4x128x256_S1x128x256_2_0_0 rfl]
      | rw [slab a7 _ ⟨3, hh⟩ ![3, 0, 0] inb_S4x128x256_S1x128x256_3_0_0 rfl]
     simp (disch := decide) only [View.readCov_cons_toLoadRect, ↓View.readCov_skip]
     refine state_at _ _ _ _ _ ?_ ?_ ?_ ?_ ?_ d e
     iterate 3 (intro d e; refine state_at _ _ _ _ _ ?_ ?_ ?_ ?_ ?_ d e)
     · intro d e
       first
         | exact ofBits_zero
         | (refine congrArg X (funext fun a => Fin.ext ?_)
            fin_cases a
            · rfl
            · exact (Nat.zero_add _).trans (Nat.one_mul _)
            · exact (Nat.zero_add _).trans (Nat.one_mul _))
     all_goals
       (intro j
        try intro d
        simp only [tile, Nat.reduceMul]
        rw [at2_eq _ (by omega) (by omega)]
        pointwise [
        k0_pay9, k0_pay10, k0_pay11, k0_pay12, k0_pay13, k0_pay14, k0_pay15, k0_pay21, k0_pay22, k0_pay23, k0_pay26, k0_pay29,
        k0_pay30, k0_pay32, k0_pay36, k0_pay37, k0_pay38, k0_pay40, k0_pay45, k0_pay46, k0_pay47, k0_pay48, k0_pay49, k0_pay50,
        k0_pay51, k0_pay56, k0_pay59, k0_pay60, k0_pay61, k0_pay65, k0_pay68, k0_pay69, k0_pay70, k0_pay71, k0_pay76, k0_pay79,
        k0_pay80, k0_pay81, k0_pay82, k0_pay87, k0_pay90, k0_pay91, k0_pay92, k0_pay93, k0_pay94, k0_pay95, k0_pay96, k0_pay97,
        k0_pay98, k0_pay100, k0_pay103, k0_pay104, k0_pay105, k0_pay106, k0_pay107, k0_pay109, k0_pay112, k0_pay113, k0_pay114,
        k0_pay115, k0_pay116, k0_pay117, k0_pay120, k0_pay121, k0_pay122, k0_pay123, k0_pay124, k0_pay125, k0_pay128, k0_pay129,
        k0_pay130, k0_pay131, k0_pay132, k0_pay133, k0_pay134, k0_pay137, k0_pay139, k0_pay140, k0_pay141, k0_pay144, k0_pay146,
        k0_pay147, k0_pay148, k0_pay151, k0_pay153, k0_pay154, k0_pay155]))

end Point

end Cert.Kernel3Ideal.Block

end
-- ==== Proof.GlaFinal.lean ====
/-
  The attention kernel's result array: its points' blocks read off the arguments, the state carried over the points, and the
  array the blocks make up, at the ideal values.
-/
module

public import proofs.«01_k».proof.Proof.GlaBlock

@[expose] public section

set_option maxRecDepth 16384

noncomputable section

open Idealize.ShloMosaic Idealize.ShloMosaic.TcCoe Idealize.SL.Sem
open Idealize.ShloMosaic.Pipeline (Dat)

namespace Cert.Kernel3Ideal.Final

open Cert.Kernel3Ideal Cert.Kernel3Ideal.Gen Cert.Kernel3Ideal.Pay Cert.Kernel3Ideal.Block Cert.Gla

/-- The rows of chunk `n` up to row `j` of it, among a block's 256 rows. -/
theorem sum_chunk (f : Fin 256 → EReal) (n : ℕ) (hn : n < 4) (j : Fin 64) (r : Fin 256) (hr : r.val = 64 * n + j.val) :
    (∑ x : Fin 256, if x.val / 64 = r.val / 64 ∧ x.val ≤ r.val then f x else 0)
      = ∑ i : Fin 64, if i.val ≤ j.val then f ⟨64 * n + i.val, by omega⟩ else 0 := by
  symm
  refine Fintype.sum_of_injective (fun i : Fin 64 => (⟨64 * n + i.val, by omega⟩ : Fin 256)) (fun a b h => ?_) _ _ (fun x hx => ?_) (fun i => ?_)
  · have := congrArg Fin.val h
    exact Fin.ext (by dsimp only at this; omega)
  · rw [if_neg]
    rintro ⟨h1, -⟩
    exact hx ⟨⟨x.val - 64 * n, by omega⟩, Fin.ext (by dsimp only; omega)⟩
  · dsimp only
    by_cases h : i.val ≤ j.val
    · rw [if_pos h, if_pos ⟨by omega, by omega⟩]
    · rw [if_neg h, if_neg (by omega)]

/-- A product with a matrix of which only the first 16 rows are not zero. -/
theorem sum_pad (f : Fin 128 → EReal) (g : Fin 16 → EReal) :
    (∑ i : Fin 128, f i * (if h : i.val < 16 then g ⟨i.val, h⟩ else 0)) = ∑ i : Fin 16, f ⟨i.val, by omega⟩ * g i := by
  symm
  refine Fintype.sum_of_injective (fun i : Fin 16 => (⟨i.val, by omega⟩ : Fin 128)) (fun a b h => ?_) _ _ (fun x hx => ?_) (fun i => ?_)
  · have := congrArg Fin.val h
    exact Fin.ext (by dsimp only at this; omega)
  · rw [dif_neg, mul_zero]
    intro h
    exact hx ⟨⟨x.val, h⟩, rfl⟩
  · dsimp only
    rw [dif_pos i.isLt]

variable (m : (ℓ : Loc nD τ sig) → Buf (Elt Ideal) ℓ) (ρ : Dev nD → PrngReg)

/-- The windows' block indices at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- There are 128 points. -/
theorem lt128 (t : Fin cfg0.N) : t.val < 128 := lt_of_lt_of_eq t.isLt N_0

/-- Writing a matrix at the top of another one. -/
theorem write_top (x : S128x512.Idx → EReal) (u : S16x512.Idx → EReal) (st : Fin S128x512.rank → Int) (hs : ∀ k, st k = 0)
    (i : Fin 128) (e : Fin 512) :
    Host.dynamicUpdateSlice x u st updateFits_S128x512_S16x512 (ix2 i e)
      = if h : i.val < 16 then u (ix2 ⟨i.val, h⟩ e) else x (ix2 i e) := by
  obtain rfl : st = fun _ => 0 := funext hs
  unfold Host.dynamicUpdateSlice updateSlice
  by_cases h : i.val < 16
  · rw [dif_pos h]
    split
    · refine congrArg u (funext fun a => Fin.ext ?_)
      match a with
      | 0 => simp
      | 1 => simp
    · rename_i hn
      exact absurd (fun a => match a with
        | 0 => ⟨by simp, by simpa using h⟩
        | 1 => ⟨by simp, by simp⟩) hn
  · rw [dif_neg h]
    split
    · rename_i hn
      exact absurd (by simpa using (hn 0).2) h
    · rfl

/-- The padded gate weight. -/
theorem wg_apply (c : Dev nD) (i : Fin 128) (e : Fin 512) :
    V m c main_v3 (ix2 i e) = if h : i.val < 16 then m ((c : Thread nD τ).loc main_arg4) (ix3 0 ⟨i.val, h⟩ e) else (0 : EReal) := by
  unfold V
  after_results
  refine (write_top _ _ _ (fun k => ?_) i e).trans ?_
  · match k with
    | 0 =>
      change BitVec.toInt ((_ : Valuation τ sig (Elt Ideal)) (Proc.tc.devRef main_c) (Shape.Idx.first h_S_)) = 0
      rfl
    | 1 =>
      change BitVec.toInt ((_ : Valuation τ sig (Elt Ideal)) (Proc.tc.devRef main_c_0) (Shape.Idx.first h_S_)) = 0
      rfl
  · by_cases h : i.val < 16
    · rw [dif_pos h, dif_pos h]
      show shapeCast S16x512 _ shapeCasts_S1x16x512_S16x512 (ix2 ⟨i.val, h⟩ e) = _
      pointwise
    · rw [dif_neg h, dif_neg h]
      pointwise

/-- The gate's bias. -/
theorem bg_apply (c : Dev nD) (k : Fin 512) :
    V m c main_v5 (ix2 0 k) = (m ((c : Thread nD τ).loc main_arg5) (ix2 0 k) : EReal) := by
  have e : V m c main_v5 = broadcastInDim S1x512 ![1] bcast_S512_S1x512_1 (shapeCast S512 (m ((c : Thread nD τ).loc main_arg5)) shapeCasts_S1x512_S512) := by
    unfold V; after_results <;> rfl
  rw [e]
  pointwise

/-- Row `a` of a point's block of queries. -/
theorem q_apply (c : Dev nD) (t : Fin cfg0.N) (a : Fin 256) (k : Fin 512) (n : Fin 32768) (hn : n.val = 256 * t.val + a.val) :
    iblk m c 0 t (ix2 a k) = m ((c : Thread nD τ).loc main_arg0) (ix2 n k) := by
  have e := (idx t).1
  blk_ext [iblk, e, hn]

/-- Row `a` of a point's block of keys. -/
theorem k_apply (c : Dev nD) (t : Fin cfg0.N) (a : Fin 256) (k : Fin 512) (n : Fin 32768) (hn : n.val = 256 * t.val + a.val) :
    iblk m c 1 t (ix2 a k) = m ((c : Thread nD τ).loc main_arg1) (ix2 n k) := by
  have e := (idx t).2.1
  blk_ext [iblk, e, hn]

/-- Row `a` of a point's block of values. -/
theorem v_apply (c : Dev nD) (t : Fin cfg0.N) (a : Fin 256) (k : Fin 1024) (n : Fin 32768) (hn : n.val = 256 * t.val + a.val) :
    iblk m c 2 t (ix2 a k) = m ((c : Thread nD τ).loc main_arg2) (ix2 n k) := by
  have e := (idx t).2.2.1
  blk_ext [iblk, e, hn]

/-- Row `a` of a point's block of low-rank inputs. -/
theorem l_apply (c : Dev nD) (t : Fin cfg0.N) (a : Fin 256) (k : Fin 128) (n : Fin 32768) (hn : n.val = 256 * t.val + a.val) :
    iblk m c 3 t (ix2 a k) = m ((c : Thread nD τ).loc main_arg3) (ix2 n k) := by
  have e := (idx t).2.2.2.1
  blk_ext [iblk, e, hn]

/-- The gate's weight, whole at every point. -/
theorem w_apply (c : Dev nD) (t : Fin cfg0.N) (a : Fin 128) (k : Fin 512) :
    iblk m c 4 t (ix2 a k) = V m c main_v3 (ix2 a k) := by
  have e := (idx t).2.2.2.2.1
  blk_ext [iblk, e]

/-- The gate's bias, whole at every point. -/
theorem b_apply (c : Dev nD) (t : Fin cfg0.N) (k : Fin 512) :
    iblk m c 5 t (ix2 0 k) = V m c main_v5 (ix2 0 k) := by
  have e := (idx t).2.2.2.2.2.1
  blk_ext [iblk, e]

/-- The gate of the arguments as a matrix. -/
abbrev G (c : Dev nD) : ℕ → ℕ → EReal :=
  at2 (gate (m ((c : Thread nD τ).loc main_arg3)) (m ((c : Thread nD τ).loc main_arg4)) (m ((c : Thread nD τ).loc main_arg5)))

/-- A point's triangular sums are the reference's cumulative sums over its chunks. -/
theorem sums_eq (c : Dev nD) (t : Fin cfg0.N) (n h : ℕ) (hn : n < 4) (hh : h < 4) (j : Fin 64) (d : Fin 128) :
    tile (at2 (sums (iblk m c 3 t) (iblk m c 4 t) (iblk m c 5 t))) (64 * n) (128 * h) j d
      = cum (G m c) (64 * (4 * t.val + n)) (128 * h) j d := by
  have ht := lt128 t
  have hr : 64 * n + j.val < 256 := by omega
  have he : 128 * h + d.val < 512 := by omega
  unfold tile
  rw [at2_eq _ hr he]
  unfold sums
  rw [pay7_apply _ (fun i => by idx_vars i; rw [pay4_apply]; exact decay_ne_top _), sum_chunk _ n hn j ⟨64 * n + j.val, hr⟩ rfl]
  unfold cum G
  refine Finset.sum_congr rfl fun i _ => if_congr Iff.rfl ?_ rfl
  rw [at2_eq _ (show 64 * (4 * t.val + n) + i.val < 32768 by omega) he, pay4_apply]
  unfold gate logit
  refine congrArg decay (congrArg₂ (· + ·) ?_ ?_)
  · refine (Finset.sum_congr rfl fun y _ => ?_).trans (sum_pad (fun y => m ((c : Thread nD τ).loc main_arg3) (ix2 ⟨64 * (4 * t.val + n) + i.val, by omega⟩ y)) (fun y => m ((c : Thread nD τ).loc main_arg4) (ix3 0 y ⟨128 * h + d.val, he⟩)))
    rw [l_apply m c t _ y ⟨64 * (4 * t.val + n) + i.val, by omega⟩ (by dsimp only; omega), w_apply, wg_apply]
  · rw [b_apply, bg_apply]
    rfl

/-- A point's chunk of queries. -/
theorem q_tile (c : Dev nD) (t : Fin cfg0.N) (n b : ℕ) (hn : n < 4) (hb : b ≤ 384) (j : Fin 64) (d : Fin 128) :
    tile (at2 (iblk m c 0 t)) (64 * n) b j d = tile (at2 (m ((c : Thread nD τ).loc main_arg0))) (64 * (4 * t.val + n)) b j d := by
  have ht := lt128 t
  unfold tile
  rw [at2_eq _ (show 64 * n + j.val < 256 by omega) (show b + d.val < 512 by omega),
    at2_eq _ (show 64 * (4 * t.val + n) + j.val < 32768 by omega) (show b + d.val < 512 by omega)]
  exact q_apply m c t _ _ _ (by dsimp only; omega)

/-- A point's chunk of keys. -/
theorem k_tile (c : Dev nD) (t : Fin cfg0.N) (n b : ℕ) (hn : n < 4) (hb : b ≤ 384) (j : Fin 64) (d : Fin 128) :
    tile (at2 (iblk m c 1 t)) (64 * n) b j d = tile (at2 (m ((c : Thread nD τ).loc main_arg1))) (64 * (4 * t.val + n)) b j d := by
  have ht := lt128 t
  unfold tile
  rw [at2_eq _ (show 64 * n + j.val < 256 by omega) (show b + d.val < 512 by omega),
    at2_eq _ (show 64 * (4 * t.val + n) + j.val < 32768 by omega) (show b + d.val < 512 by omega)]
  exact k_apply m c t _ _ _ (by dsimp only; omega)

/-- A point's chunk of values. -/
theorem v_tile (c : Dev nD) (t : Fin cfg0.N) (n b : ℕ) (hn : n < 4) (hb : b ≤ 768) (j : Fin 64) (d : Fin 256) :
    tile (at2 (iblk m c 2 t)) (64 * n) b j d = tile (at2 (m ((c : Thread nD τ).loc main_arg2))) (64 * (4 * t.val + n)) b j d := by
  have ht := lt128 t
  unfold tile
  rw [at2_eq _ (show 64 * n + j.val < 256 by omega) (show b + d.val < 1024 by omega),
    at2_eq _ (show 64 * (4 * t.val + n) + j.val < 32768 by omega) (show b + d.val < 1024 by omega)]
  exact v_apply m c t _ _ _ (by dsimp only; omega)

/-- The state a point starts from carried over its chunks. -/
theorem carried (c : Dev nD) (t : Fin cfg0.N) (h : ℕ) (hh : h < 4) (s : Fin 128 → Fin 256 → EReal)
    (hs : s = state (G m c) (at2 (m ((c : Thread nD τ).loc main_arg1))) (at2 (m ((c : Thread nD τ).loc main_arg2))) h (64 * (t.val / 16)) (4 * (t.val % 16)))
    (n : ℕ) (hn : n ≤ 4) :
    blkS (at2 (sums (iblk m c 3 t) (iblk m c 4 t) (iblk m c 5 t))) (at2 (iblk m c 1 t)) (at2 (iblk m c 2 t)) h s n
      = state (G m c) (at2 (m ((c : Thread nD τ).loc main_arg1))) (at2 (m ((c : Thread nD τ).loc main_arg2))) h (64 * (t.val / 16)) (4 * (t.val % 16) + n) := by
  induction n with
  | zero => exact hs
  | succ n ih =>
    have e : 64 * (t.val / 16) + (4 * (t.val % 16) + n) = 4 * t.val + n := by omega
    rw [blkS, ih (by omega), ← Nat.add_assoc, state, e]
    congr 1
    · funext j d; exact sums_eq m c t n h (by omega) hh j d
    · funext j d; exact k_tile m c t n _ (by omega) (by omega) j d
    · funext j d; exact v_tile m c t n _ (by omega) (by omega) j d

/-- The carried state after a point that starts a sequence. -/
theorem first_state (c : Dev nD) (t : Fin cfg0.N) (h0 : t.val % 16 = 0) (h : Fin 4) (d : Fin 128) (e : Fin 256) :
    (outsAt0 m c t.val t.isLt).2 (ix3 h d e)
      = blkS (at2 (sums (iblk m c 3 t) (iblk m c 4 t) (iblk m c 5 t))) (at2 (iblk m c 1 t)) (at2 (iblk m c 2 t)) h.val (fun _ _ => 0) 4 d e := by
  have E := (state_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) (iblk m c 5 t) (outsAt0 m c (t.val - 1) (Nat.lt_of_le_of_lt (Nat.sub_le _ _) t.isLt)).2 h d e).1
  have E2 := E ((hcond0_0 t).mpr h0)
  clear E
  rw [outsAt0_A m c t h0]
  dsimp only
  exact E2

/-- The block of a point that starts a sequence. -/
theorem first_block (c : Dev nD) (t : Fin cfg0.N) (h0 : t.val % 16 = 0) (y : S256x1024.Idx) :
    (outsAt0 m c t.val t.isLt).1 y
      = blkOut (iblk m c 0 t) (iblk m c 1 t) (iblk m c 2 t) (iblk m c 3 t) (iblk m c 4 t) (iblk m c 5 t) (fun _ _ _ => 0) y := by
  have E := (out_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) (iblk m c 5 t) (outsAt0 m c (t.val - 1) (Nat.lt_of_le_of_lt (Nat.sub_le _ _) t.isLt)).2 y).1
  have E2 := E ((hcond0_0 t).mpr h0)
  clear E
  rw [outsAt0_A m c t h0]
  dsimp only
  exact E2

/-- The carried state after any other point. -/
theorem later_state (c : Dev nD) (t : Fin cfg0.N) (h0 : ¬t.val % 16 = 0) (h : Fin 4) (d : Fin 128) (e : Fin 256) :
    (outsAt0 m c t.val t.isLt).2 (ix3 h d e)
      = blkS (at2 (sums (iblk m c 3 t) (iblk m c 4 t) (iblk m c 5 t))) (at2 (iblk m c 1 t)) (at2 (iblk m c 2 t)) h.val
          (fun d e => (outsAt0 m c (t.val - 1) (Nat.lt_of_le_of_lt (Nat.sub_le _ _) t.isLt)).2 (ix3 (Fin.ofNat 4 h.val) d e)) 4 d e := by
  have E := (state_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) (iblk m c 5 t) (outsAt0 m c (t.val - 1) (Nat.lt_of_le_of_lt (Nat.sub_le _ _) t.isLt)).2 h d e).2
  have E2 := E (fun h => h0 ((hcond0_0 t).mp h))
  clear E
  rw [outsAt0_B m c t h0]
  dsimp only
  exact E2

/-- The block of any other point. -/
theorem later_block (c : Dev nD) (t : Fin cfg0.N) (h0 : ¬t.val % 16 = 0) (y : S256x1024.Idx) :
    (outsAt0 m c t.val t.isLt).1 y
      = blkOut (iblk m c 0 t) (iblk m c 1 t) (iblk m c 2 t) (iblk m c 3 t) (iblk m c 4 t) (iblk m c 5 t)
          (fun h d e => (outsAt0 m c (t.val - 1) (Nat.lt_of_le_of_lt (Nat.sub_le _ _) t.isLt)).2 (ix3 (Fin.ofNat 4 h) d e)) y := by
  have E := (out_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) (iblk m c 5 t) (outsAt0 m c (t.val - 1) (Nat.lt_of_le_of_lt (Nat.sub_le _ _) t.isLt)).2 y).2
  have E2 := E (fun h => h0 ((hcond0_0 t).mp h))
  clear E
  rw [outsAt0_B m c t h0]
  dsimp only
  exact E2

/-- What is left in the carried state after a point. -/
theorem left (c : Dev nD) (n : ℕ) : ∀ t : Fin cfg0.N, t.val = n → ∀ (h : Fin 4) (d : Fin 128) (e : Fin 256),
    (outsAt0 m c t.val t.isLt).2 (ix3 h d e)
      = state (G m c) (at2 (m ((c : Thread nD τ).loc main_arg1))) (at2 (m ((c : Thread nD τ).loc main_arg2))) h.val (64 * (t.val / 16)) (4 * (t.val % 16) + 4) d e := by
  induction n with
  | zero =>
    intro t hn h d e
    have h0 : t.val % 16 = 0 := by omega
    exact (first_state m c t h0 h d e).trans <| congrFun (congrFun (carried m c t h.val h.isLt (fun _ _ => 0) (by rw [h0]; exact (state.eq_1 _ _ _ _ _).symm) 4 le_rfl) d) e
  | succ n ih =>
    intro t hn h d e
    by_cases h0 : t.val % 16 = 0
    · exact (first_state m c t h0 h d e).trans <| congrFun (congrFun (carried m c t h.val h.isLt (fun _ _ => 0) (by rw [h0]; exact (state.eq_1 _ _ _ _ _).symm) 4 le_rfl) d) e
    · refine (later_state m c t h0 h d e).trans ?_
      have hf : Fin.ofNat 4 h.val = h := Fin.ext (Nat.mod_eq_of_lt h.isLt)
      rw [hf]
      refine congrFun (congrFun (carried m c t h.val h.isLt _ ?_ 4 le_rfl) d) e
      funext d e
      have ht := lt128 t
      have e1 : (t.val - 1) / 16 = t.val / 16 := by omega
      have e2 : 4 * ((t.val - 1) % 16) + 4 = 4 * (t.val % 16) := by omega
      have := ih ⟨t.val - 1, by omega⟩ (by dsimp only; omega) h d e
      dsimp only at this
      rw [e1, e2] at this
      exact this

/-- A point's block of the output. -/
theorem block_apply (c : Dev nD) (t : Fin cfg0.N) (a : Fin 256) (e : Fin 1024) (n : Fin 32768) (hn : n.val = 256 * t.val + a.val) :
    (outsAt0 m c t.val t.isLt).1 (ix2 a e)
      = out (at2 (m ((c : Thread nD τ).loc main_arg0))) (at2 (m ((c : Thread nD τ).loc main_arg1))) (at2 (m ((c : Thread nD τ).loc main_arg2))) (G m c) n e := by
  have ht := lt128 t
  have key : ∀ s : ℕ → Fin 128 → Fin 256 → EReal,
      s (e.val / 256) = state (G m c) (at2 (m ((c : Thread nD τ).loc main_arg1))) (at2 (m ((c : Thread nD τ).loc main_arg2))) (e.val / 256) (64 * (t.val / 16)) (4 * (t.val % 16)) →
      blkOut (iblk m c 0 t) (iblk m c 1 t) (iblk m c 2 t) (iblk m c 3 t) (iblk m c 4 t) (iblk m c 5 t) s (ix2 a e)
        = out (at2 (m ((c : Thread nD τ).loc main_arg0))) (at2 (m ((c : Thread nD τ).loc main_arg1))) (at2 (m ((c : Thread nD τ).loc main_arg2))) (G m c) n e := by
    intro s hs
    have hd : e.val / 256 < 4 := Nat.div_lt_of_lt_mul e.isLt
    unfold blkOut out outC blkO
    simp only [ix2_0, ix2_1]
    rw [carried m c t (e.val / 256) hd _ hs (a.val / 64) (by omega)]
    have e1 : 64 * (n.val / 4096) = 64 * (t.val / 16) := by omega
    have e2 : n.val / 64 % 64 = 4 * (t.val % 16) + a.val / 64 := by omega
    have e3 : 64 * (t.val / 16) + (4 * (t.val % 16) + a.val / 64) = 4 * t.val + a.val / 64 := by omega
    have e4 : (⟨n.val % 64, by omega⟩ : Fin 64) = ⟨a.val % 64, by omega⟩ := Fin.ext (by dsimp only; omega)
    rw [e1, e2, e3, e4]
    refine congrFun (congrFun ?_ _) _
    congr 1
    · funext j d; exact sums_eq m c t _ _ (by omega) hd j d
    · funext j d; exact q_tile m c t _ _ (by omega) (by omega) j d
    · funext j d; exact k_tile m c t _ _ (by omega) (by omega) j d
    · funext j d; exact v_tile m c t _ _ (by omega) (by omega) j d
  by_cases h0 : t.val % 16 = 0
  · refine (first_block m c t h0 (ix2 a e)).trans ?_
    exact key (fun _ _ _ => 0) (by rw [h0]; exact (state.eq_1 _ _ _ _ _).symm)
  · refine (later_block m c t h0 (ix2 a e)).trans ?_
    refine key _ ?_
    funext d k
    have hf : Fin.ofNat 4 (e.val / 256) = (⟨e.val / 256, by omega⟩ : Fin 4) := Fin.ext (Nat.mod_eq_of_lt (by omega))
    rw [hf]
    have e1 : (t.val - 1) / 16 = t.val / 16 := by omega
    have e2 : 4 * ((t.val - 1) % 16) + 4 = 4 * (t.val % 16) := by omega
    have := left m c (t.val - 1) ⟨t.val - 1, by omega⟩ rfl ⟨e.val / 256, by omega⟩ d k
    dsimp only at this
    rw [e1, e2] at this
    exact this

/-- The result array. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have e := (idx t).2.2.2.2.2.2
  have ht := lt128 t
  blk_simp
  rw [after0_6]
  idx_vars y
  have hE : (win0_6.blk t).view.emb (ix2 y0 y1) = (ix2 ⟨256 * t.val + y0.val, by omega⟩ y1 : S32768x1024.Idx) := by
    blk_ext [e]
  rw [hE]
  exact block_apply m c t y0 y1 _ rfl

end Cert.Kernel3Ideal.Final

end
-- ==== Proof.GlaLoop.lean ====
/-
  The attention reference's loop, read at an index: what one trip makes of the carried state and of the outputs, and what the
  operations before the loop leave.
-/
module

public import proofs.«01_k».proof.Proof.Gen.Reference3Ideal.Run
public import proofs.«01_k».proof.Proof.Gen.Reference3Ideal.Step
public import Idealize.ShloMosaic.Lib.WordCmp
public import proofs.«01_k».proof.Proof.Gla

@[expose] public section

set_option maxRecDepth 16384

noncomputable section

open Idealize.ShloMosaic Idealize.ShloMosaic.TcCoe Idealize.SL.Sem

namespace Cert.Reference3Ideal.Loop

open Cert.Reference3Ideal Cert.Reference3Ideal.Gen Cert.Reference3Ideal.Value Cert.Gla

/-- The mask is the lower triangle. -/
theorem mask_apply (i k : Fin 64) (a b : EReal) :
    Scalar.select (Step.K_main_v35 (F := Ideal) (ix2 i k)) a b = if k.val ≤ i.val then a else b := by
  pointwise [Step.K_main_v35, Step.K_main_call1_v5, Step.K_main_call1_c_0, Step.K_main_call1_v4, Step.K_main_call1_v3, Step.K_main_call1_v2,
    Step.K_main_call1_v1, Step.K_main_call1_c, Step.K_main_call1_v0, Step.K_main_v34, Step.K_main_c]
  have e : IntOp.cmpi CmpIPredicate.sge (IntOp.addi (BitVec.ofNat 32 i.val) 0#32) (BitVec.ofNat 32 k.val) = BitVec.ofBool (decide (k.val ≤ i.val)) := by
    rw [show IntOp.addi (BitVec.ofNat 32 i.val) 0#32 = BitVec.ofNat 32 i.val from BitVec.add_zero _]
    exact WordCmp.cmpi_sge_ofNat (by omega) (by omega)
  rw [e]
  by_cases h : k.val ≤ i.val
  · rw [if_pos h, decide_eq_true h]; rfl
  · rw [if_neg h, decide_eq_false h]; rfl

/-- A trip's start in the chunked arrays. -/
theorem start_eq (j : Fin 64) :
    (fun k => (((![constantI S_ 32 (BitVec.ofNat 32 j.val), constantI S_ 32 0#32, constantI S_ 32 0#32, constantI S_ 32 0#32, constantI S_ 32 0#32] : Fin 5 → (⟨S_, .i32⟩ : BufTy).Contents (Elt Ideal))) k (Shape.Idx.first h_S_)).toInt)
      = ![(j.val : Int), 0, 0, 0, 0] := by
  funext k
  match k with
  | 0 => exact WordCmp.toInt_ofNat_of_lt (by omega)
  | 1 => rfl
  | 2 => rfl
  | 3 => rfl
  | 4 => rfl

/-- A trip's chunk of a chunked array with 128 columns. -/
theorem slice128 (x : S64x8x4x64x128.Idx → EReal) (j : Fin 64) (st : Fin 5 → Int) (hs : st = ![(j.val : Int), 0, 0, 0, 0]) (b : Fin 8) (h : Fin 4) (r : Fin 64) (d : Fin 128) :
    shapeCast S8x4x64x128 (Host.dynamicSlice S1x8x4x64x128 x st sliceFits_S64x8x4x64x128_S1x8x4x64x128) shapeCasts_S1x8x4x64x128_S8x4x64x128 (ix4 b h r d)
      = x (ix5 j b h r d) := by
  subst hs
  pointwise
  refine congrArg x ?_
  congr 1 <;> (apply Fin.ext; simp [Host.clampedStart]; try omega)

/-- A trip's chunk of a chunked array with 256 columns. -/
theorem slice256 (x : S64x8x4x64x256.Idx → EReal) (j : Fin 64) (st : Fin 5 → Int) (hs : st = ![(j.val : Int), 0, 0, 0, 0]) (b : Fin 8) (h : Fin 4) (r : Fin 64) (d : Fin 256) :
    shapeCast S8x4x64x256 (Host.dynamicSlice S1x8x4x64x256 x st sliceFits_S64x8x4x64x256_S1x8x4x64x256) shapeCasts_S1x8x4x64x256_S8x4x64x256 (ix4 b h r d)
      = x (ix5 j b h r d) := by
  subst hs
  pointwise
  refine congrArg x ?_
  congr 1 <;> (apply Fin.ext; simp [Host.clampedStart]; try omega)

/-- A chunk written into the outputs. -/
theorem write_chunk (x : S64x8x4x64x256.Idx → EReal) (u : S1x8x4x64x256.Idx → EReal) (j n : Fin 64) (st : Fin 5 → Int) (hs : st = ![(j.val : Int), 0, 0, 0, 0]) (b : Fin 8) (h : Fin 4) (r : Fin 64) (e : Fin 256) :
    Host.dynamicUpdateSlice x u st updateFits_S64x8x4x64x256_S1x8x4x64x256 (ix5 n b h r e)
      = if n = j then u (ix5 0 b h r e) else x (ix5 n b h r e) := by
  subst hs
  pointwise
  have c0 : Host.clampedStart S64x8x4x64x256 S1x8x4x64x256 rfl ![(j.val : Int), 0, 0, 0, 0] 0 = j.val := by
    simp [Host.clampedStart]; omega
  have c1 : ∀ a : Fin 5, a ≠ 0 → Host.clampedStart S64x8x4x64x256 S1x8x4x64x256 rfl ![(j.val : Int), 0, 0, 0, 0] a = 0 := by
    intro a ha
    match a with
    | 1 => rfl
    | 2 => rfl
    | 3 => rfl
    | 4 => rfl
  by_cases hn : n = j
  · subst hn
    rw [if_pos rfl, dif_pos (by rw [c0, c1 1 (by decide), c1 2 (by decide), c1 3 (by decide), c1 4 (by decide)]; omega)]
    refine congrArg u ?_
    congr 1 <;> (apply Fin.ext; dsimp only; first | (rw [c0]; simp) | (rw [c1 _ (by decide)]; rfl))
  · rw [if_neg hn, dif_neg (by rw [c0]; intro hh; exact hn (Fin.ext (by omega)))]

section Trip

variable (V0 : Valuation τ sig (Elt Ideal)) (j : Fin 64) (hj : V0 (Proc.devRef .tc main_v42_5) = constantI S_ 32 (BitVec.ofNat 32 j.val))

include hj

/-- The trip's queries. -/
theorem q_apply (b : Fin 8) (h : Fin 4) (r : Fin 64) (d : Fin 128) :
    res_main_while0b_v46 V0 (ix4 b h r d) = V0 (Proc.devRef .tc main_v42_0) (ix5 j b h r d) := by
  unfold res_main_while0b_v46
  rw [hj]
  exact slice128 _ j _ (start_eq j) b h r d

/-- The trip's keys. -/
theorem k_apply (b : Fin 8) (h : Fin 4) (r : Fin 64) (d : Fin 128) :
    res_main_while0b_v47 V0 (ix4 b h r d) = V0 (Proc.devRef .tc main_v42_1) (ix5 j b h r d) := by
  unfold res_main_while0b_v47
  rw [hj]
  exact slice128 _ j _ (start_eq j) b h r d

/-- The trip's values. -/
theorem v_apply (b : Fin 8) (h : Fin 4) (r : Fin 64) (d : Fin 256) :
    res_main_while0b_v48 V0 (ix4 b h r d) = V0 (Proc.devRef .tc main_v42_2) (ix5 j b h r d) := by
  unfold res_main_while0b_v48
  rw [hj]
  exact slice256 _ j _ (start_eq j) b h r d

/-- The trip's cumulative sums. -/
theorem b_apply (b : Fin 8) (h : Fin 4) (r : Fin 64) (d : Fin 128) :
    res_main_while0b_v49 V0 (ix4 b h r d) = V0 (Proc.devRef .tc main_v42_3) (ix5 j b h r d) := by
  unfold res_main_while0b_v49
  rw [hj]
  exact slice128 _ j _ (start_eq j) b h r d

/-- Row 32 of them. -/
theorem mid_apply (b : Fin 8) (h : Fin 4) (d : Fin 128) :
    res_main_while0b_v50 V0 (ix4 b h 0 d) = V0 (Proc.devRef .tc main_v42_3) (ix5 j b h 32 d) := by
  unfold res_main_while0b_v50
  rw [← b_apply V0 j hj]
  pointwise

/-- Row 63 of them. -/
theorem end_apply (b : Fin 8) (h : Fin 4) (d : Fin 128) :
    res_main_while0b_v62 V0 (ix4 b h 0 d) = V0 (Proc.devRef .tc main_v42_3) (ix5 j b h 63 d) := by
  unfold res_main_while0b_v62
  rw [← b_apply V0 j hj]
  pointwise

/-- The state after the trip. -/
theorem state_trip (b : Fin 8) (h : Fin 4) (d : Fin 128) (e : Fin 256) :
    step_main_v42_6 V0 (ix4 b h d e)
      = chunkS (fun r d => V0 (Proc.devRef .tc main_v42_3) (ix5 j b h r d)) (fun r d => V0 (Proc.devRef .tc main_v42_1) (ix5 j b h r d))
          (fun r e => V0 (Proc.devRef .tc main_v42_2) (ix5 j b h r e)) (fun d e => V0 (Proc.devRef .tc main_v42_6) (ix4 b h d e)) d e := by
  unfold step_main_v42_6 chunkS
  rw [id_eq]
  pointwise [k_apply V0 j hj, v_apply V0 j hj, b_apply V0 j hj, end_apply V0 j hj]

/-- The outputs after the trip. -/
theorem out_trip (hk : V0 (Proc.devRef .tc main_v42_4) = Step.K_main_v35 (F := Ideal)) (n : Fin 64) (b : Fin 8) (h : Fin 4) (r : Fin 64) (e : Fin 256) :
    step_main_v42_7 V0 (ix5 n b h r e)
      = if n = j then chunkO (fun r d => V0 (Proc.devRef .tc main_v42_3) (ix5 j b h r d)) (fun r d => V0 (Proc.devRef .tc main_v42_0) (ix5 j b h r d))
          (fun r d => V0 (Proc.devRef .tc main_v42_1) (ix5 j b h r d)) (fun r e => V0 (Proc.devRef .tc main_v42_2) (ix5 j b h r e))
          (fun d e => V0 (Proc.devRef .tc main_v42_6) (ix4 b h d e)) r e
        else V0 (Proc.devRef .tc main_v42_7) (ix5 n b h r e) := by
  unfold step_main_v42_7 chunkO
  rw [hj, hk]
  refine (write_chunk _ _ j n _ (start_eq j) b h r e).trans (if_congr Iff.rfl ?_ rfl)
  pointwise [q_apply V0 j hj, k_apply V0 j hj, v_apply V0 j hj, b_apply V0 j hj, mid_apply V0 j hj, mask_apply, id_eq]

end Trip

/-! ## The chunked arrays before the loop -/

section Before

variable (x0 x1 : FVec Ideal S32768x512 .bf16) (x2 : FVec Ideal S32768x1024 .bf16) (x3 : FVec Ideal S32768x128 .f32)
  (x4 : FVec Ideal S1x16x512 .f32) (x5 : FVec Ideal S1x512 .f32)

/-- The queries, chunked. -/
theorem q_chunk (n : Fin 64) (b : Fin 8) (h : Fin 4) (r : Fin 64) (d : Fin 128) :
    Step.A_main_v37 (F := Ideal) x0 x1 x2 x3 x4 x5 (ix5 n b h r d) = tile (at2 x0) (64 * (64 * b.val + n.val)) (128 * h.val) r d := by
  unfold tile
  rw [at2_eq _ (show 64 * (64 * b.val + n.val) + r.val < 32768 by omega) (show 128 * h.val + d.val < 512 by omega)]
  pointwise [Step.A_main_v37, Step.A_main_v26, Step.A_main_v25, Step.A_main_v24]
  refine congrArg x0 ?_
  congr 1 <;> (apply Fin.ext; dsimp only; omega)

/-- The keys, chunked. -/
theorem k_chunk (n : Fin 64) (b : Fin 8) (h : Fin 4) (r : Fin 64) (d : Fin 128) :
    Step.A_main_v38 (F := Ideal) x0 x1 x2 x3 x4 x5 (ix5 n b h r d) = tile (at2 x1) (64 * (64 * b.val + n.val)) (128 * h.val) r d := by
  unfold tile
  rw [at2_eq _ (show 64 * (64 * b.val + n.val) + r.val < 32768 by omega) (show 128 * h.val + d.val < 512 by omega)]
  pointwise [Step.A_main_v38, Step.A_main_v29, Step.A_main_v28, Step.A_main_v27]
  refine congrArg x1 ?_
  congr 1 <;> (apply Fin.ext; dsimp only; omega)

/-- The values, chunked. -/
theorem v_chunk (n : Fin 64) (b : Fin 8) (h : Fin 4) (r : Fin 64) (e : Fin 256) :
    Step.A_main_v39 (F := Ideal) x0 x1 x2 x3 x4 x5 (ix5 n b h r e) = tile (at2 x2) (64 * (64 * b.val + n.val)) (256 * h.val) r e := by
  unfold tile
  rw [at2_eq _ (show 64 * (64 * b.val + n.val) + r.val < 32768 by omega) (show 256 * h.val + e.val < 1024 by omega)]
  pointwise [Step.A_main_v39, Step.A_main_v32, Step.A_main_v31, Step.A_main_v30]
  refine congrArg x2 ?_
  congr 1 <;> (apply Fin.ext; dsimp only; omega)

/-- The reference's form of the log decay. -/
theorem decay_eq (x y z : EReal) :
    Ideal.div (-(if -x ≠ -x then y else max (-x) 0 + Ideal.log1p (Ideal.exp (-(max (-x) (- -x)))))) (Ideal.ofBits FTy.f32 1098907648#32) = decay x := by
  have hd : ∀ y : EReal, Ideal.div y (Ideal.ofBits FTy.f32 1098907648#32) = y * Ideal.ofBits .f32 0x3D800000#32 := by
    intro y
    rw [show Ideal.ofBits FTy.f32 1098907648#32 = ((16 : ℝ) : EReal) from sixteen, sixteenth]
    unfold Ideal.div
    rw [if_neg (by norm_cast), ← EReal.coe_inv, one_div]
  rw [hd, if_neg (not_not.2 rfl), neg_neg, max_comm (-x) x, ← zero_sub (max x (-x))]
  unfold decay
  obtain ⟨l, -, hl⟩ := soft_real x
  rw [hl, EReal.neg_add (Or.inr (EReal.coe_ne_top _)) (Or.inr (EReal.coe_ne_bot _))]
  refine congrArg (fun y : EReal => (y - (l : EReal)) * _) ?_
  rcases le_total x 0 with h | h
  · rw [min_eq_left h, max_eq_left (by simpa using EReal.neg_le_neg_iff.2 h), neg_neg]
  · rw [min_eq_right h, max_eq_right (by simpa using EReal.neg_le_neg_iff.2 h), neg_zero]

/-- The logits. -/
theorem logit_apply (r : Fin 32768) (e : Fin 512) : Step.A_main_v4 (F := Ideal) x0 x1 x2 x3 x4 x5 (ix2 r e) = logit x3 x4 x5 r e := by
  unfold logit
  pointwise [Step.A_main_v4, Step.A_main_v3, Step.A_main_v2, Step.A_main_v1, Step.A_main_v0]

/-- The log decays. -/
theorem gate_apply (r : Fin 32768) (e : Fin 512) : Step.A_main_v21 (F := Ideal) x0 x1 x2 x3 x4 x5 (ix2 r e) = gate x3 x4 x5 (ix2 r e) := by
  unfold gate
  simp only [ix2_0, ix2_1]
  rw [← logit_apply x0 x1 x2 x3 x4 x5 r e]
  pointwise [Step.A_main_v21, Step.A_main_v19, Step.A_main_v18, Step.A_main_v17, Step.A_main_v16, Step.A_main_v15, Step.A_main_v14, Step.A_main_v13,
    Step.A_main_v12, Step.A_main_v10, Step.A_main_v9, Step.A_main_v7, Step.A_main_v5, Step.K_main_v6, Step.K_main_v8, Step.K_main_v11, Step.K_main_v20,
    Step.K_main_cst, Step.K_main_cst_0]
  generalize Step.A_main_v4 (F := Ideal) x0 x1 x2 x3 x4 x5 (ix2 r e) = x
  exact decay_eq x _ 0

/-- A sum taken from the left over all numbers below a bound. -/
theorem foldl_sum (N : ℕ) (f : Fin N → EReal) : (List.finRange N).foldl (fun r n => r + f n) 0 = ∑ n, f n := by
  rw [Fin.sum_univ_def, List.sum_eq_foldl, List.foldl_map]

/-- The positions of a window of 64 rows. -/
theorem window_pos (n : Fin (⟨5, ![1, 1, 1, 64, 1]⟩ : Shape).numel) (a : Fin 5) :
    ((⟨5, ![1, 1, 1, 64, 1]⟩ : Shape).rowMajor.symm n a).val = if a = 3 then n.val else 0 := by
  revert n a
  decide +kernel

/-- The sums over windows of 64 rows that end at each row, of zero before the first one. -/
theorem window_sum (x : S8x4x64x64x128.Idx → EReal) (z : S_.Idx → EReal) (hz : ∀ i, z i = 0) (n : Fin 64) (b : Fin 8) (h : Fin 4) (r : Fin 64) (d : Fin 128) :
    Host.reduceWindowAdd (F := Ideal) (φ := .f32) ![1, 1, 1, 64, 1] ![1, 1, 1, 1, 1] ![0, 0, 0, 63, 0] ![0, 0, 0, 0, 0] x z
      reduceWindows_S8x4x64x64x128_S8x4x64x64x128_w1s1p0_0_w1s1p0_0_w1s1p0_0_w64s1p63_0_w1s1p0_0 h_S_ (ix5 b h n r d)
      = ∑ i : Fin 64, if i.val ≤ r.val then x (ix5 b h n i d) else 0 := by
  unfold Host.reduceWindowAdd
  change Ideal.hostReduceWindowAdd ![1, 1, 1, 64, 1] ![1, 1, 1, 1, 1] ![0, 0, 0, 63, 0] ![0, 0, 0, 0, 0] _ x (z _) (ix5 b h n r d) = _
  unfold Ideal.hostReduceWindowAdd Host.reduceWindow
  simp only [hz]
  refine (foldl_sum _ _).trans ?_
  have hc : ((r + 1 : Fin 64)).val = (r.val + 1) % 64 := by rw [Fin.val_add]; rfl
  refine Fintype.sum_equiv (Equiv.addRight (r + 1 : Fin 64)) _ _ (fun k => ?_)
  have hk : k.val < 64 := k.isLt
  have hw := window_pos k
  have he : (Equiv.addRight (r + 1 : Fin 64) k).val = (k.val + r.val + 1) % 64 := by
    show (k + (r + 1) : Fin 64).val = _
    rw [Fin.val_add, hc]; omega
  by_cases hle : 63 ≤ r.val + k.val
  · rw [if_pos (by rw [he]; omega), dif_pos]
    · refine congrArg x (funext fun a => Fin.ext ?_)
      have hwa := hw a
      match a, hwa with
      | 0, w => show b.val * 1 + _ - 0 = b.val; rw [w]; simp
      | 1, w => show h.val * 1 + _ - 0 = h.val; rw [w]; simp
      | 2, w => show n.val * 1 + _ - 0 = n.val; rw [w]; simp
      | 3, w =>
        show r.val * 1 + _ - 63 = (Equiv.addRight (r + 1 : Fin 64) k).val
        rw [w, he, if_pos rfl]; omega
      | 4, w => show d.val * 1 + _ - 0 = d.val; rw [w]; simp
    · intro a
      have hwa := hw a
      match a, hwa with
      | 0, w => show 0 ≤ b.val * 1 + _ ∧ b.val * 1 + _ - 0 < 8; rw [w, if_neg (by decide)]; omega
      | 1, w => show 0 ≤ h.val * 1 + _ ∧ h.val * 1 + _ - 0 < 4; rw [w, if_neg (by decide)]; omega
      | 2, w => show 0 ≤ n.val * 1 + _ ∧ n.val * 1 + _ - 0 < 64; rw [w, if_neg (by decide)]; omega
      | 3, w => show 63 ≤ r.val * 1 + _ ∧ r.val * 1 + _ - 63 < 64; rw [w, if_pos rfl]; omega
      | 4, w => show 0 ≤ d.val * 1 + _ ∧ d.val * 1 + _ - 0 < 128; rw [w, if_neg (by decide)]; omega
  · rw [if_neg (by rw [he]; omega), dif_neg]
    intro hin
    have h3 : 63 ≤ r.val * 1 + _ := (hin 3).1
    rw [hw 3, if_pos rfl] at h3
    omega

/-- The cumulative sums, chunked. -/
theorem b_chunk (n : Fin 64) (b : Fin 8) (h : Fin 4) (r : Fin 64) (d : Fin 128) :
    Step.A_main_v40 (F := Ideal) x0 x1 x2 x3 x4 x5 (ix5 n b h r d) = cum (at2 (gate x3 x4 x5)) (64 * (64 * b.val + n.val)) (128 * h.val) r d := by
  unfold cum
  pointwise [Step.A_main_v40, Step.A_main_v33]
  refine (window_sum _ _ (fun i => ?_) n b h r d).trans ?_
  · pointwise [Step.K_main_call0_call0_v0, Step.K_main_call0_call0_cst]
  · refine Finset.sum_congr rfl fun i _ => if_congr Iff.rfl ?_ rfl
    rw [at2_eq _ (show 64 * (64 * b.val + n.val) + i.val < 32768 by omega) (show 128 * h.val + d.val < 512 by omega), ← gate_apply x0 x1 x2 x3 x4 x5]
    pointwise [Step.A_main_v23, Step.A_main_v22]
    refine congrArg _ ?_
    congr 1 <;> (apply Fin.ext; dsimp only; omega)

end Before

end Cert.Reference3Ideal.Loop

end
-- ==== Proof.GlaRef.lean ====
/-
  The attention reference as a whole: what the carried arrays hold before every trip, and the result after the last one.
-/
module

public import proofs.«01_k».proof.Proof.GlaLoop

@[expose] public section

set_option maxRecDepth 16384

noncomputable section

open Idealize.ShloMosaic Idealize.ShloMosaic.TcCoe Idealize.SL.Sem Idealize.ShloMosaic.StableHlo

namespace Cert.Reference3Ideal.Loop

open Cert.Reference3Ideal Cert.Reference3Ideal.Gen Cert.Reference3Ideal.Value Cert.Gla

section Whole

variable (x0 : (⟨S32768x512, .bf16⟩ : BufTy).Contents (Elt Ideal)) (x1 : (⟨S32768x512, .bf16⟩ : BufTy).Contents (Elt Ideal))
  (x2 : (⟨S32768x1024, .bf16⟩ : BufTy).Contents (Elt Ideal)) (x3 : (⟨S32768x128, .f32⟩ : BufTy).Contents (Elt Ideal))
  (x4 : (⟨S1x16x512, .f32⟩ : BufTy).Contents (Elt Ideal)) (x5 : (⟨S1x512, .f32⟩ : BufTy).Contents (Elt Ideal))

/-- What the carried arrays hold before trip `j`. -/
structure Holds (V0 : Valuation τ sig (Elt Ideal)) (j : ℕ) : Prop where
  q : V0 (Proc.devRef .tc main_v42_0) = Step.A_main_v37 (F := Ideal) x0 x1 x2 x3 x4 x5
  k : V0 (Proc.devRef .tc main_v42_1) = Step.A_main_v38 (F := Ideal) x0 x1 x2 x3 x4 x5
  v : V0 (Proc.devRef .tc main_v42_2) = Step.A_main_v39 (F := Ideal) x0 x1 x2 x3 x4 x5
  b : V0 (Proc.devRef .tc main_v42_3) = Step.A_main_v40 (F := Ideal) x0 x1 x2 x3 x4 x5
  mask : V0 (Proc.devRef .tc main_v42_4) = Step.K_main_v35 (F := Ideal)
  trip : V0 (Proc.devRef .tc main_v42_5) = constantI S_ 32 (BitVec.ofNat 32 j)
  st : ∀ (b : Fin 8) (h : Fin 4) (d : Fin 128) (e : Fin 256), V0 (Proc.devRef .tc main_v42_6) (ix4 b h d e)
    = state (at2 (gate x3 x4 x5)) (at2 x1) (at2 x2) h.val (64 * b.val) j d e
  ys : ∀ (n : Fin 64) (b : Fin 8) (h : Fin 4) (r : Fin 64) (e : Fin 256), n.val < j → V0 (Proc.devRef .tc main_v42_7) (ix5 n b h r e)
    = outC (at2 x0) (at2 x1) (at2 x2) (at2 (gate x3 x4 x5)) h.val (64 * b.val) n.val r e

variable {x0 x1 x2 x3 x4 x5}

/-- One trip keeps it. -/
theorem holds_step {V0 : Valuation τ sig (Elt Ideal)} {j : ℕ} (hj : j < 64) (H : Holds x0 x1 x2 x3 x4 x5 V0 j) :
    Holds x0 x1 x2 x3 x4 x5 (STEP V0) (j + 1) where
  q := (STEP_main_v42_0 V0).trans H.q
  k := (STEP_main_v42_1 V0).trans H.k
  v := (STEP_main_v42_2 V0).trans H.v
  b := (STEP_main_v42_3 V0).trans H.b
  mask := (STEP_main_v42_4 V0).trans H.mask
  trip := by
    rw [STEP_main_v42_5]
    unfold step_main_v42_5
    rw [H.trip]
    funext i
    show BitVec.ofNat 32 j + 1#32 = BitVec.ofNat 32 (j + 1)
    simp only [BitVec.ofNat_add]
  st b h d e := by
    rw [STEP_main_v42_6, state_trip V0 ⟨j, hj⟩ H.trip b h d e]
    rw [H.b, H.k, H.v]
    simp only [b_chunk, k_chunk, v_chunk, H.st]
    rfl
  ys n b h r e hn := by
    rw [STEP_main_v42_7, out_trip V0 ⟨j, hj⟩ H.trip H.mask n b h r e]
    by_cases hnj : n = ⟨j, hj⟩
    · rw [if_pos hnj, H.q, H.b, H.k, H.v]
      simp only [b_chunk, q_chunk, k_chunk, v_chunk, H.st]
      subst hnj
      rfl
    · rw [if_neg hnj]
      exact H.ys n b h r e (by have : n.val ≠ j := fun h => hnj (Fin.ext h)
                               omega)

/-- It holds before every trip if it holds before the first. -/
theorem holds_iter {V0 : Valuation τ sig (Elt Ideal)} (H : Holds x0 x1 x2 x3 x4 x5 V0 0) :
    ∀ j : ℕ, j ≤ 64 → Holds x0 x1 x2 x3 x4 x5 (STEP^[j] V0) j
  | 0, _ => H
  | j + 1, hj => by
    rw [Function.iterate_succ_apply']
    exact holds_step (by omega) (holds_iter H j (by omega))

/-- The result from the outputs of all trips. -/
theorem result_of {V0 : Valuation τ sig (Elt Ideal)} (H : Holds x0 x1 x2 x3 x4 x5 V0 64) :
    out_main_v45 V0 = result x0 x1 x2 x3 x4 x5 := by
  funext y
  obtain ⟨r, e, rfl⟩ : ∃ r e, y = ix2 r e := ⟨y 0, y 1, by funext i; match i with | 0 => rfl | 1 => rfl⟩
  have hy := H.ys ⟨r.val / 64 % 64, by omega⟩ ⟨r.val / 4096, by omega⟩ ⟨e.val / 256, by omega⟩ ⟨r.val % 64, by omega⟩ ⟨e.val % 256, by omega⟩
    (by show r.val / 64 % 64 < 64; omega)
  refine Eq.trans ?_ hy
  unfold out_main_v45
  pointwise

end Whole

set_option maxRecDepth 65536 in
set_option maxHeartbeats 400000 in
/-- What the loop starts from. -/
theorem entry (m : (ℓ : Loc nD τ sig) → Buf (Elt Ideal) ℓ) (c : Dev nD) :
    Holds (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (entryContents preI m c) 0 where
  q := by (simp only [entryContents, afterL_cons, afterL_nil]; after_reads_simp) <;> rfl
  k := by (simp only [entryContents, afterL_cons, afterL_nil]; after_reads_simp) <;> rfl
  v := by (simp only [entryContents, afterL_cons, afterL_nil]; after_reads_simp) <;> rfl
  b := by (simp only [entryContents, afterL_cons, afterL_nil]; after_reads_simp) <;> rfl
  mask := by (simp only [entryContents, afterL_cons, afterL_nil]; after_reads_simp) <;> rfl
  trip := by (simp only [entryContents, afterL_cons, afterL_nil]; after_reads_simp) <;> rfl
  st b h d e := by
    have E : entryContents preI m c (Proc.devRef .tc main_v42_6) = Step.K_main_v36 (F := Ideal) := by
      (simp only [entryContents, afterL_cons, afterL_nil]; after_reads_simp) <;> rfl
    rw [E]
    show _ = (0 : EReal)
    pointwise [Step.K_main_v36, Step.K_main_cst_1]
  ys n b h r e hn := absurd hn (Nat.not_lt_zero _)

/-- The result of the whole reference. -/
theorem final (m : (ℓ : Loc nD τ sig) → Buf (Elt Ideal) ℓ) (c : Dev nD) :
    out_main_v45 (STEP^[64] (entryContents preI m c))
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  result_of (holds_iter (entry m c) 64 le_rfl)

end Cert.Reference3Ideal.Loop

end
-- ==== Proof.Out.lean ====
/-
  The layer's output stage as functions of the arguments' entries over the extended reals, with no program in them: the
  attention's heads normalized and gated, the short convolution with its zero rows at the ends of each sequence of 4096
  rows, both through the output weight, the residual, and the final row normalization.
-/
module

public import proofs.«01_k».proof.Proof.Spec

@[expose] public section

set_option maxRecDepth 16384

noncomputable section

open Idealize.ShloMosaic

namespace Cert.Outp

open Cert.Proj

/-- Entry `k` of one head's row `o` divided by its root mean square, scaled by `g` and gated by `s`. -/
def head (o g s : Fin 256 → EReal) (k : Fin 256) : EReal :=
  o k * Ideal.rsqrt (Ideal.div (∑ j : Fin 256, o j * o j) (Ideal.ofBits .f32 0x43800000#32) + Ideal.ofBits .f32 0x358637BD#32)
    * g k * s k

/-- Head `h` of a row. -/
def part (o : Fin 1024 → EReal) (h : Fin 4) (k : Fin 256) : EReal := o ⟨256 * h.val + k.val, by omega⟩

/-- The heads of the row `o`, and the convolution's row `y`, times one column `W` of the output weight. -/
def mix (o s : Fin 1024 → EReal) (g : Fin 256 → EReal) (y : Fin 1024 → EReal) (W : Fin 2048 → EReal) : EReal :=
  (∑ h : Fin 4, ∑ k : Fin 256, head (part o h) g (part s h) k * W ⟨256 * h.val + k.val, by omega⟩)
    + ∑ k : Fin 1024, y k * W ⟨1024 + k.val, by omega⟩

section Whole
variable (x : (⟨2, ![32768, 1024]⟩ : Shape).Idx → EReal) (a b s u c : (⟨2, ![32768, 1024]⟩ : Shape).Idx → EReal)
  (g : (⟨2, ![1, 256]⟩ : Shape).Idx → EReal) (cw : (⟨3, ![1, 3, 1024]⟩ : Shape).Idx → EReal)
  (cb : (⟨2, ![1, 1024]⟩ : Shape).Idx → EReal) (W : (⟨3, ![1, 2048, 1024]⟩ : Shape).Idx → EReal)
  (fg : (⟨1, ![1024]⟩ : Shape).Idx → EReal)

/-- The row before `R` in its sequence, zero at the sequence's first row. -/
def prev (R : Fin 32768) (e : Fin 1024) : EReal :=
  if h : R.val % 4096 = 0 then 0 else u (ix2 ⟨R.val - 1, by omega⟩ e)

/-- The row after `R` in its sequence, zero at the sequence's last row. -/
def next (R : Fin 32768) (e : Fin 1024) : EReal :=
  if h : R.val % 4096 = 4095 then 0 else u (ix2 ⟨R.val + 1, by omega⟩ e)

/-- The gated convolution of width three with its bias. -/
def branch (R : Fin 32768) (e : Fin 1024) : EReal :=
  c (ix2 R e) * (cw (ix3 0 0 e) * prev u R e + cw (ix3 0 1 e) * u (ix2 R e) + cw (ix3 0 2 e) * next u R e + cb (ix2 0 e))

/-- The residual row with both branches through the output weight added. -/
def row (R : Fin 32768) (e : Fin 1024) : EReal :=
  x (ix2 R e) + mix (fun k => a (ix2 R k) + b (ix2 R k)) (fun k => s (ix2 R k)) (fun k => g (ix2 0 k)) (branch u c cw cb R)
    (fun k => W (ix3 0 k e))

/-- The layer's result. -/
def result (i : (⟨2, ![32768, 1024]⟩ : Shape).Idx) : EReal :=
  nrm (row x a b s u c g cw cb W (i 0)) (fun k => fg (ix1 k)) (i 1)

end Whole

end Cert.Outp

end
-- ==== Proof.OutPay.lean ====
/-
  The output stage's values of the body read at an index, at the ideal values: one head's product, the rows before and
  after, the convolution's product, and the final row normalization.
-/
module

public import proofs.«01_k».proof.Proof.Out
public import proofs.«01_k».proof.Proof.Conv
public import proofs.«01_k».proof.Proof.Gen.Kernel4Ideal.Skeleton

@[expose] public section

set_option maxRecDepth 16384

noncomputable section

open Idealize.ShloMosaic

namespace Cert.Kernel4Ideal.Pay

open Cert.Kernel4Ideal Cert.Kernel4Ideal.Gen Cert.Proj Cert.Outp

/-- Entries `b`, … of row `r` of the two directions' sum. -/
def sumAt (p q : Vec Ideal S512x1024 .bf16) (r : Fin 512) (b : Nat) (hb : b ≤ 768) (k : Fin 256) : EReal :=
  p (ix2 r ⟨b + k.val, by omega⟩) + q (ix2 r ⟨b + k.val, by omega⟩)

variable (p q : Vec Ideal S512x1024 .bf16) (g : Vec Ideal S1x256 .f32) (s : Vec Ideal S512x256 .bf16) (w : Vec Ideal S256x1024 .bf16)

/-- The first head's product. -/
theorem pay3_apply (r : Fin 512) (e : Fin 1024) : k0_pay3 p q g s w (ix2 r e)
    = ∑ k : Fin 256, head (sumAt p q r 0 (by omega)) (fun j => g (ix2 0 j)) (fun j => s (ix2 r j)) k * w (ix2 k e) := by
  pointwise [k0_pay3, k0_pay2, head, sumAt]

/-- The second head's product, added. -/
theorem pay6_apply (v : FVec Ideal S512x1024 .f32) (r : Fin 512) (e : Fin 1024) :
    k0_pay6 v (k0_pay4 p q) (k0_pay5 p q) g s w (ix2 r e)
      = v (ix2 r e) + ∑ k : Fin 256, head (sumAt p q r 256 (by omega)) (fun j => g (ix2 0 j)) (fun j => s (ix2 r j)) k * w (ix2 k e) := by
  pointwise [k0_pay6, k0_pay5, k0_pay4, k0_pay2, head, sumAt]

/-- The third head, normalized and gated. -/
theorem pay7_apply (r : Fin 512) (k : Fin 256) : k0_pay7 (k0_pay2 p q) g s (ix2 r k)
    = head (sumAt p q r 512 (by omega)) (fun j => g (ix2 0 j)) (fun j => s (ix2 r j)) k := by
  pointwise [k0_pay7, k0_pay2, head, sumAt]

/-- The third head's product and the fourth's, added. -/
theorem pay8_apply (v : FVec Ideal S512x1024 .f32) (y : FVec Ideal S512x256 .bf16) (w2 : Vec Ideal S256x1024 .bf16) (r : Fin 512) (e : Fin 1024) :
    k0_pay8 (k0_pay2 p q) v y w2 g s w (ix2 r e)
      = v (ix2 r e) + (∑ k : Fin 256, y (ix2 r k) * w2 (ix2 k e))
        + ∑ k : Fin 256, head (sumAt p q r 768 (by omega)) (fun j => g (ix2 0 j)) (fun j => s (ix2 r j)) k * w (ix2 k e) := by
  pointwise [k0_pay8, k0_pay2, head, sumAt]

/-- The row before the block, zero where the block starts a sequence. -/
theorem pay10_apply (v : BitVec 32) (x : Vec Ideal S1x1024 .bf16) (e : Fin 1024) :
    k0_pay10 v x (ix2 0 e) = if v = 0#32 then 0 else x (ix2 0 e) := by
  pointwise [k0_pay10]
  rw [Cert.KernelIdeal.Pay.select_eq]

/-- The row after the block, zero where the block ends a sequence. -/
theorem pay11_apply (v : BitVec 32) (x : Vec Ideal S1x1024 .bf16) (e : Fin 1024) :
    k0_pay11 v x (ix2 0 e) = if v = 7#32 then 0 else x (ix2 0 e) := by
  pointwise [k0_pay11]
  rw [Cert.KernelIdeal.Pay.select_eq]

/-- A row of the convolution over the block, the rows before and after it given. -/
def convRow (u : Vec Ideal S512x1024 .f32) (pv nx c0 c1 c2 cb : Vec Ideal S1x1024 .f32) (r : Fin 512) (e : Fin 1024) : EReal :=
  c0 (ix2 0 e) * (if hr : r.val = 0 then pv (ix2 0 e) else u (ix2 ⟨r.val - 1, by omega⟩ e)) + c1 (ix2 0 e) * u (ix2 r e)
    + c2 (ix2 0 e) * (if hr : r.val = 511 then nx (ix2 0 e) else u (ix2 ⟨r.val + 1, by omega⟩ e)) + cb (ix2 0 e)

/-- The row above, through the rotation and the choice. -/
theorem above (u : Vec Ideal S512x1024 .f32) (z : EReal) (r : Fin 512) (e : Fin 1024) :
    Scalar.select (IntOp.cmpi CmpIPredicate.eq (BitVec.ofNat 32 r.val) 0#32) z (u (ix2 ⟨(r.val + 512 - 1) % 512, Nat.mod_lt _ (by omega)⟩ e))
      = if hr : r.val = 0 then z else u (ix2 ⟨r.val - 1, by omega⟩ e) := by
  have hw : (BitVec.ofNat 32 r.val = 0#32) ↔ r.val = 0 := by
    revert r; decide
  change Scalar.select (Scalar.cmpi CmpIPredicate.eq (BitVec.ofNat 32 r.val) 0#32) _ _ = _
  rw [Cert.KernelIdeal.Pay.select_eq]
  by_cases hr : r.val = 0
  · rw [if_pos (hw.2 hr), dif_pos hr]
  · rw [if_neg (fun e => hr (hw.1 e)), dif_neg hr]
    have e : (r.val + 512 - 1) % 512 = r.val - 1 := by omega
    simp only [e]

/-- The row below, through the rotation and the choice. -/
theorem below (u : Vec Ideal S512x1024 .f32) (z : EReal) (r : Fin 512) (e : Fin 1024) :
    Scalar.select (IntOp.cmpi CmpIPredicate.eq (BitVec.ofNat 32 r.val) 511#32) z (u (ix2 ⟨(r.val + 512 - 511) % 512, Nat.mod_lt _ (by omega)⟩ e))
      = if hr : r.val = 511 then z else u (ix2 ⟨r.val + 1, by omega⟩ e) := by
  have hw : (BitVec.ofNat 32 r.val = 511#32) ↔ r.val = 511 := by
    revert r; decide
  change Scalar.select (Scalar.cmpi CmpIPredicate.eq (BitVec.ofNat 32 r.val) 511#32) _ _ = _
  rw [Cert.KernelIdeal.Pay.select_eq]
  by_cases hr : r.val = 511
  · rw [if_pos (hw.2 hr), dif_pos hr]
  · rw [if_neg (fun e => hr (hw.1 e)), dif_neg hr]
    have e : (r.val + 512 - 511) % 512 = r.val + 1 := by omega
    simp only [e]

/-- The gated convolution's product, added. -/
theorem pay12_apply (v : FVec Ideal S512x1024 .f32) (u : Vec Ideal S512x1024 .f32) (pv nx c0 c1 c2 cb : Vec Ideal S1x1024 .f32)
    (c : Vec Ideal S512x1024 .bf16) (wl : Vec Ideal S1024x1024 .bf16) (r : Fin 512) (e : Fin 1024) :
    k0_pay12 v u pv nx (iota .tc S512x1 32 [0] iota_S512x1_d0_w32) c0 c1 c2 cb c wl (ix2 r e)
      = v (ix2 r e) + ∑ k : Fin 1024, c (ix2 r k) * convRow u pv nx c0 c1 c2 cb r k * wl (ix2 k e) := by
  unfold convRow
  simp only [← above, ← below]
  pointwise [k0_pay12]

/-- The residual added and the row normalized. -/
theorem pay1_apply (v : FVec Ideal S512x1024 .f32) (x : Vec Ideal S512x1024 .f32) (f : Vec Ideal S1x1024 .f32) (r : Fin 512) (e : Fin 1024) :
    k0_pay1 v x f (ix2 r e) = nrm (fun k => x (ix2 r k) + v (ix2 r k)) (fun k => f (ix2 0 k)) e := by
  pointwise [k0_pay1, nrm]

end Cert.Kernel4Ideal.Pay

end
-- ==== Proof.OutBlock.lean ====
/-
  A point's block of the output stage as a function of the blocks it is given, at the ideal values.
-/
module

public import proofs.«01_k».proof.Proof.OutPay
public import proofs.«01_k».proof.Proof.Gen.Kernel4Ideal.Frame

@[expose] public section

set_option maxRecDepth 16384

noncomputable section

open Idealize.ShloMosaic

namespace Cert.Kernel4Ideal.Block

open Cert.Kernel4Ideal Cert.Kernel4Ideal.Gen Cert.Kernel4Ideal.Pay Cert.Proj Cert.Outp

/-- The stores and loads of whole buffers start at offset zero. -/
theorem hz : (![0, 0] : Fin 2 → Nat) = fun _ => 0 := funext fun a => by fin_cases a <;> rfl

variable (i : grid0.Coords) (x0 : Vec Ideal S512x1024 .f32) (x1 x2 x3 x4 : Vec Ideal S512x1024 .bf16) (x5 x6 : Vec Ideal S16x1024 .bf16)
  (x7 : Vec Ideal S512x1024 .bf16) (x8 : Vec Ideal S1x256 .f32) (x9 : Vec Ideal S3x1024 .f32) (x10 : Vec Ideal S1x1024 .f32)
  (x11 : Vec Ideal S2048x1024 .bf16) (x12 : Vec Ideal S1x1024 .f32)

/-- Row `r` of the gated convolution of the block, with the halo rows' places decided by the point. -/
def blkY (r : Fin 512) (e : Fin 1024) : EReal :=
  x7 (ix2 r e) * (x9 (ix2 0 e) * (if hr : r.val = 0 then (if (i 0).val % 8 = 0 then 0 else x5 (ix2 15 e)) else x4 (ix2 ⟨r.val - 1, by omega⟩ e))
    + x9 (ix2 1 e) * x4 (ix2 r e)
    + x9 (ix2 2 e) * (if hr : r.val = 511 then (if (i 0).val % 8 = 7 then 0 else x6 (ix2 0 e)) else x4 (ix2 ⟨r.val + 1, by omega⟩ e))
    + x10 (ix2 0 e))

/-- The convolution's input is the block itself. -/
theorem pay9_apply (r : Fin 512) (e : Fin 1024) : k0_pay9 x4 (ix2 r e) = x4 (ix2 r e) := by
  pointwise [k0_pay9]

/-- The gated convolution's row over the loads. -/
theorem conv_ld (hi : (i 0).val < 64) (r : Fin 512) (e : Fin 1024) :
    View.ld x7 r0_0 (ix2 r e) * convRow (k0_pay9 (View.ld x4 r0_0)) (k0_pay10 (Cert.KernelIdeal.Pay.posWord (i 0).val) (View.ld x5 r0_10))
        (k0_pay11 (Cert.KernelIdeal.Pay.posWord (i 0).val) (View.ld x6 r0_11)) (View.ld x9 r0_12) (View.ld x9 r0_13) (View.ld x9 r0_14) (View.ld x10 r0_15) r e
      = blkY i x4 x5 x6 x7 x9 x10 r e := by
  have hp := Cert.KernelIdeal.Pay.posWord_iff ⟨(i 0).val, hi⟩
  dsimp only at hp
  unfold convRow
  rw [View.ld_unit_zero (S := S512x1024) hz, View.ld_unit_zero (S := S512x1024) hz, View.ld_unit_zero (S := S1x1024) hz]
  simp only [pay9_apply, pay10_apply, pay11_apply, hp.1, hp.2]
  pointwise [blkY]

/-- One head's product over the loads. -/
theorem head_ld (h : Fin 4) (b : Nat) (hb : b ≤ 768) (e2 : b = 256 * h.val) (s : Vec Ideal S512x256 .bf16) (w : Vec Ideal S256x1024 .bf16)
    (r : Fin 512) (e : Fin 1024)
    (hs : ∀ k, s (ix2 r k) = x3 (ix2 r ⟨256 * h.val + k.val, by omega⟩))
    (hw : ∀ k, w (ix2 k e) = x11 (ix2 ⟨256 * h.val + k.val, by omega⟩ e)) :
    (∑ k : Fin 256, head (sumAt x1 x2 r b hb) (fun j => x8 (ix2 0 j)) (fun j => s (ix2 r j)) k * w (ix2 k e))
      = ∑ k : Fin 256, head (part (fun k => x1 (ix2 r k) + x2 (ix2 r k)) h) (fun j => x8 (ix2 0 j)) (part (fun k => x3 (ix2 r k)) h) k
          * x11 (ix2 ⟨256 * h.val + k.val, by omega⟩ e) := by
  subst e2
  refine Finset.sum_congr rfl fun k _ => ?_
  rw [hw, show (fun j => s (ix2 r j)) = part (fun k => x3 (ix2 r k)) h from funext hs]
  rfl

/-- Row `r` of the block's residual with both branches through the output weight added. -/
def blkRow (r : Fin 512) (k : Fin 1024) : EReal :=
  x0 (ix2 r k) + mix (fun k => x1 (ix2 r k) + x2 (ix2 r k)) (fun k => x3 (ix2 r k)) (fun k => x8 (ix2 0 k))
    (blkY i x4 x5 x6 x7 x9 x10 r) (fun j => x11 (ix2 j k))

/-- A point's block. -/
theorem out_apply (hi : (i 0).val < 64) (r : Fin 512) (e : Fin 1024) :
    out0_13 i x0 x1 x2 x3 x4 x5 x6 x7 x8 x9 x10 x11 x12 (ix2 r e)
      = nrm (blkRow i x0 x1 x2 x3 x4 x5 x6 x7 x8 x9 x10 x11 r) (fun k => x12 (ix2 0 k)) e := by
  unfold out0_13
  rw [View.canon_unit_zero (S := S512x1024) hz, pay1_apply]
  refine congrArg₂ (fun p q => nrm p q e) (funext fun k => ?_) (by rw [View.ld_unit_zero (S := S1x1024) hz])
  have l0 : View.ld x0 r0_0 = x0 := by rw [View.ld_unit_zero (S := S512x1024) hz]
  have l1 : View.ld x1 r0_0 = x1 := by rw [View.ld_unit_zero (S := S512x1024) hz]
  have l2 : View.ld x2 r0_0 = x2 := by rw [View.ld_unit_zero (S := S512x1024) hz]
  have l8 : View.ld x8 r0_1 = x8 := by rw [View.ld_unit_zero (S := S1x256) hz]
  unfold blkRow
  rw [l0]
  refine congrArg _ ?_
  rw [pay12_apply]
  unfold mix
  refine congrArg₂ (· + ·) ?_ (Finset.sum_congr rfl fun j _ => congrArg₂ (· * ·) (conv_ld i x4 x5 x6 x7 x9 x10 hi r j) ?_)
  · unfold k0_pay13
    rw [pay8_apply, pay6_apply, pay3_apply, Fin.sum_univ_four]
    simp only [pay7_apply]
    rw [l1, l2, l8]
    refine congrArg₂ (· + ·) (congrArg₂ (· + ·) (congrArg₂ (· + ·) ?_ ?_) ?_) ?_
    · exact head_ld x1 x2 x3 x8 x11 0 0 (by omega) rfl _ _ r k (fun j => by pointwise) (fun j => by pointwise)
    · exact head_ld x1 x2 x3 x8 x11 1 256 (by omega) rfl _ _ r k (fun j => by pointwise) (fun j => by pointwise)
    · exact head_ld x1 x2 x3 x8 x11 2 512 (by omega) rfl _ _ r k (fun j => by pointwise) (fun j => by pointwise)
    · exact head_ld x1 x2 x3 x8 x11 3 768 (by omega) rfl _ _ r k (fun j => by pointwise) (fun j => by pointwise)
  · pointwise

end Cert.Kernel4Ideal.Block

end
-- ==== Proof.OutFinal.lean ====
/-
  The output stage's result array after the run, as a whole-array function of its arguments at the ideal values.
-/
module

public import proofs.«01_k».proof.Proof.OutBlock
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Final

open Cert.Kernel4Ideal Cert.Kernel4Ideal.Gen Cert.Kernel4Ideal.Block Cert.Proj Cert.Outp

/-- The convolution's weights without their leading axis. -/
theorem cast_cw (y : S1x3x1024.Idx → EReal) (j : Fin 3) (k : Fin 1024) :
    shapeCast S3x1024 y shapeCasts_S1x3x1024_S3x1024 (ix2 j k) = y (ix3 0 j k) := by
  refine shapeCast_apply y shapeCasts_S1x3x1024_S3x1024 (ix2 j k) (ix3 0 j k) ?_
  rewrite [Shape.rowMajor_val_three, Shape.rowMajor_val_two]
  show (0 * 3 + j.val) * 1024 + k.val = j.val * 1024 + k.val
  omega

/-- The output weight without its leading axis. -/
theorem cast_wo (y : S1x2048x1024.Idx → EReal) (j : Fin 2048) (k : Fin 1024) :
    shapeCast S2048x1024 y shapeCasts_S1x2048x1024_S2048x1024 (ix2 j k) = y (ix3 0 j k) := by
  refine shapeCast_apply y shapeCasts_S1x2048x1024_S2048x1024 (ix2 j k) (ix3 0 j k) ?_
  rewrite [Shape.rowMajor_val_three, Shape.rowMajor_val_two]
  show (0 * 2048 + j.val) * 1024 + k.val = j.val * 1024 + k.val
  omega

variable (m : (ℓ : Loc nD τ sig) → Buf (Elt Ideal) ℓ) (ρ : Dev nD → PrngReg)

/-- The block indices of the windows over rows: the point's own block, the sixteen rows before it (the first sixteen at
    point zero) and the sixteen after it (the last sixteen at the last point). -/
theorem idxRow : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![32 * t.val - 1, 0]
    ∧ win0_6.index t = ![min (32 * (t.val + 1)) 2047, 0] ∧ win0_7.index t = ![t.val, 0] ∧ win0_13.index t = ![t.val, 0] :=
  (by decide +kernel : ∀ t : Fin grid0.N, _)

/-- The windows over whole operands. -/
theorem idxAll : ∀ t : Fin cfg0.N, win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The grid's one coordinate is the point's number. -/
theorem coord : ∀ t : Fin cfg0.N, (grid0.coords t 0).val = t.val := (by decide +kernel : ∀ t : Fin grid0.N, _)

/-- There are 64 points. -/
theorem lt64 (t : Fin cfg0.N) : t.val < 64 := lt_of_lt_of_eq t.isLt N_0

/-- The heads' gain row. -/
theorem g_apply (c : Dev nD) (k : Fin 256) :
    V m c main_v1 (ix2 0 k) = (m ((c : Thread nD τ).loc main_arg6) (ix2 0 k) : EReal) := by
  have e : V m c main_v1 = broadcastInDim S1x256 ![1] bcast_S256_S1x256_1 (shapeCast S256 (m ((c : Thread nD τ).loc main_arg6)) shapeCasts_S1x256_S256) := by
    unfold V; after_results <;> rfl
  rw [e]
  pointwise

/-- The convolution's weights. -/
theorem cw_apply (c : Dev nD) (j : Fin 3) (k : Fin 1024) :
    V m c main_v2 (ix2 j k) = (m ((c : Thread nD τ).loc main_arg7) (ix3 0 j k) : EReal) := by
  have e : V m c main_v2 = shapeCast S3x1024 (m ((c : Thread nD τ).loc main_arg7)) shapeCasts_S1x3x1024_S3x1024 := by
    unfold V; after_results <;> rfl
  rw [e]
  exact cast_cw _ j k

/-- The convolution's bias. -/
theorem cb_apply (c : Dev nD) (k : Fin 1024) :
    V m c main_v4 (ix2 0 k) = (m ((c : Thread nD τ).loc main_arg8) (ix2 0 k) : EReal) := by
  have e : V m c main_v4 = broadcastInDim S1x1024 ![1] bcast_S1024_S1x1024_1 (shapeCast S1024 (m ((c : Thread nD τ).loc main_arg8)) shapeCasts_S1x1024_S1024) := by
    unfold V; after_results <;> rfl
  rw [e]
  pointwise

/-- The output weight. -/
theorem wo_apply (c : Dev nD) (j : Fin 2048) (k : Fin 1024) :
    V m c main_v6 (ix2 j k) = (m ((c : Thread nD τ).loc main_arg9) (ix3 0 j k) : EReal) := by
  have e : V m c main_v6 = truncf (F := Ideal) .bf16 (shapeCast S2048x1024 (m ((c : Thread nD τ).loc main_arg9)) shapeCasts_S1x2048x1024_S2048x1024) bitsLt_bf16_f32 := by
    unfold V; after_results <;> rfl
  rw [e]
  exact cast_wo _ j k

/-- The final gain row. -/
theorem fg_apply (c : Dev nD) (k : Fin 1024) :
    V m c main_v7 (ix2 0 k) = (m ((c : Thread nD τ).loc main_arg10) (ix1 k) : EReal) := by
  have e : V m c main_v7 = broadcastInDim S1x1024 ![1] bcast_S1024_S1x1024_1 (m ((c : Thread nD τ).loc main_arg10)) := by
    unfold V; after_results <;> rfl
  rw [e]
  pointwise

/-- Row `r` of the block at point `t`, as a row of the array. -/
def rowOf (t : Fin cfg0.N) (r : Fin 512) : Fin 32768 := ⟨512 * t.val + r.val, by have := lt64 t; omega⟩

/-- A row of the residual's block. -/
theorem x_row (c : Dev nD) (t : Fin cfg0.N) (r : Fin 512) (k : Fin 1024) :
    iblk m c 0 t (ix2 r k) = m ((c : Thread nD τ).loc main_arg0) (ix2 (rowOf t r) k) := by
  have e := (idxRow t).1
  blk_ext [iblk, e, rowOf]

/-- A row of the forward attention's block. -/
theorem a_row (c : Dev nD) (t : Fin cfg0.N) (r : Fin 512) (k : Fin 1024) :
    iblk m c 1 t (ix2 r k) = m ((c : Thread nD τ).loc main_arg1) (ix2 (rowOf t r) k) := by
  have e := (idxRow t).2.1
  blk_ext [iblk, e, rowOf]

/-- A row of the backward attention's block. -/
theorem b_row (c : Dev nD) (t : Fin cfg0.N) (r : Fin 512) (k : Fin 1024) :
    iblk m c 2 t (ix2 r k) = m ((c : Thread nD τ).loc main_arg2) (ix2 (rowOf t r) k) := by
  have e := (idxRow t).2.2.1
  blk_ext [iblk, e, rowOf]

/-- A row of the attention's gate's block. -/
theorem s_row (c : Dev nD) (t : Fin cfg0.N) (r : Fin 512) (k : Fin 1024) :
    iblk m c 3 t (ix2 r k) = m ((c : Thread nD τ).loc main_arg3) (ix2 (rowOf t r) k) := by
  have e := (idxRow t).2.2.2.1
  blk_ext [iblk, e, rowOf]

/-- A row of the convolution's input's block. -/
theorem u_row (c : Dev nD) (t : Fin cfg0.N) (r : Fin 512) (k : Fin 1024) :
    iblk m c 4 t (ix2 r k) = m ((c : Thread nD τ).loc main_arg4) (ix2 (rowOf t r) k) := by
  have e := (idxRow t).2.2.2.2.1
  blk_ext [iblk, e, rowOf]

/-- The last of the sixteen rows before the block, at a point that is not the first. -/
theorem up_row (c : Dev nD) (t : Fin cfg0.N) (ht : t.val ≠ 0) (k : Fin 1024) :
    iblk m c 5 t (ix2 15 k) = m ((c : Thread nD τ).loc main_arg4) (ix2 ⟨512 * t.val - 1, by have := lt64 t; omega⟩ k) := by
  have e := (idxRow t).2.2.2.2.2.1
  have h15 : ((15 : Fin 16) : Nat) = 15 := rfl
  blk_ext [iblk, e, h15]

/-- The first of the sixteen rows after the block, at a point that is not the last. -/
theorem un_row (c : Dev nD) (t : Fin cfg0.N) (ht : t.val ≠ 63) (k : Fin 1024) :
    iblk m c 6 t (ix2 0 k) = m ((c : Thread nD τ).loc main_arg4) (ix2 ⟨512 * t.val + 512, by have := lt64 t; omega⟩ k) := by
  have e := (idxRow t).2.2.2.2.2.2.1
  have := lt64 t
  blk_ext [iblk, e]

/-- A row of the convolution's gate's block. -/
theorem c_row (c : Dev nD) (t : Fin cfg0.N) (r : Fin 512) (k : Fin 1024) :
    iblk m c 7 t (ix2 r k) = m ((c : Thread nD τ).loc main_arg5) (ix2 (rowOf t r) k) := by
  have e := (idxRow t).2.2.2.2.2.2.2.1
  blk_ext [iblk, e, rowOf]

theorem g_row (c : Dev nD) (t : Fin cfg0.N) (k : Fin 256) :
    iblk m c 8 t (ix2 0 k) = (m ((c : Thread nD τ).loc main_arg6) (ix2 0 k) : EReal) := by
  refine Eq.trans ?_ (g_apply m c k)
  have e := (idxAll t).1
  blk_ext [iblk, e]

theorem cw_row (c : Dev nD) (t : Fin cfg0.N) (j : Fin 3) (k : Fin 1024) :
    iblk m c 9 t (ix2 j k) = (m ((c : Thread nD τ).loc main_arg7) (ix3 0 j k) : EReal) := by
  refine Eq.trans ?_ (cw_apply m c j k)
  have e := (idxAll t).2.1
  blk_ext [iblk, e]

theorem cb_row (c : Dev nD) (t : Fin cfg0.N) (k : Fin 1024) :
    iblk m c 10 t (ix2 0 k) = (m ((c : Thread nD τ).loc main_arg8) (ix2 0 k) : EReal) := by
  refine Eq.trans ?_ (cb_apply m c k)
  have e := (idxAll t).2.2.1
  blk_ext [iblk, e]

theorem wo_row (c : Dev nD) (t : Fin cfg0.N) (j : Fin 2048) (k : Fin 1024) :
    iblk m c 11 t (ix2 j k) = (m ((c : Thread nD τ).loc main_arg9) (ix3 0 j k) : EReal) := by
  refine Eq.trans ?_ (wo_apply m c j k)
  have e := (idxAll t).2.2.2.1
  blk_ext [iblk, e]

theorem fg_row (c : Dev nD) (t : Fin cfg0.N) (k : Fin 1024) :
    iblk m c 12 t (ix2 0 k) = (m ((c : Thread nD τ).loc main_arg10) (ix1 k) : EReal) := by
  refine Eq.trans ?_ (fg_apply m c k)
  have e := (idxAll t).2.2.2.2
  blk_ext [iblk, e]

/-- The row before: the halo's row at row 0 of a block, the block's own above. -/
theorem prev_eq (c : Dev nD) (t : Fin cfg0.N) (r : Fin 512) (k : Fin 1024) :
    (if hr : r.val = 0 then (if (grid0.coords t 0).val % 8 = 0 then (0 : EReal) else iblk m c 5 t (ix2 15 k))
      else iblk m c 4 t (ix2 ⟨r.val - 1, by omega⟩ k))
      = prev (m ((c : Thread nD τ).loc main_arg4)) (rowOf t r) k := by
  have hlt := lt64 t
  have hrow : (rowOf t r).val = 512 * t.val + r.val := rfl
  rw [coord]
  unfold prev
  by_cases hr : r.val = 0
  · rw [dif_pos hr]
    by_cases ht : t.val % 8 = 0
    · rw [if_pos ht, dif_pos (by omega)]
    · rw [if_neg ht, dif_neg (by omega), up_row m c t (by omega)]
      congr 2
      apply Fin.ext; show 512 * t.val - 1 = (rowOf t r).val - 1; omega
  · rw [dif_neg hr, dif_neg (by omega), u_row]
    congr 2
    apply Fin.ext; show 512 * t.val + (r.val - 1) = (rowOf t r).val - 1; omega

/-- The row after: the halo's row at row 511 of a block, the block's own below. -/
theorem next_eq (c : Dev nD) (t : Fin cfg0.N) (r : Fin 512) (k : Fin 1024) :
    (if hr : r.val = 511 then (if (grid0.coords t 0).val % 8 = 7 then (0 : EReal) else iblk m c 6 t (ix2 0 k))
      else iblk m c 4 t (ix2 ⟨r.val + 1, by omega⟩ k))
      = next (m ((c : Thread nD τ).loc main_arg4)) (rowOf t r) k := by
  have hlt := lt64 t
  have hrow : (rowOf t r).val = 512 * t.val + r.val := rfl
  rw [coord]
  unfold next
  by_cases hr : r.val = 511
  · rw [dif_pos hr]
    by_cases ht : t.val % 8 = 7
    · rw [if_pos ht, dif_pos (by omega)]
    · rw [if_neg ht, dif_neg (by omega), un_row m c t (by omega)]
      congr 2
      apply Fin.ext; show 512 * t.val + 512 = (rowOf t r).val + 1; omega
  · rw [dif_neg hr, dif_neg (by omega), u_row]
    congr 2

/-- A row of a point's gated convolution. -/
theorem y_row (c : Dev nD) (t : Fin cfg0.N) (r : Fin 512) (k : Fin 1024) :
    blkY (grid0.coords t) (iblk m c 4 t) (iblk m c 5 t) (iblk m c 6 t) (iblk m c 7 t) (iblk m c 9 t) (iblk m c 10 t) r k
      = branch (m ((c : Thread nD τ).loc main_arg4)) (m ((c : Thread nD τ).loc main_arg5)) (m ((c : Thread nD τ).loc main_arg7))
          (m ((c : Thread nD τ).loc main_arg8)) (rowOf t r) k := by
  unfold blkY branch
  rw [prev_eq, next_eq, c_row, u_row, cw_row, cw_row, cw_row, cb_row]

/-- A row of a point's residual with both branches added. -/
theorem row_eq (c : Dev nD) (t : Fin cfg0.N) (r : Fin 512) (k : Fin 1024) :
    blkRow (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) r k
      = row (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (rowOf t r) k := by
  unfold blkRow row
  refine congrArg₂ (· + ·) (x_row m c t r k) ?_
  congr 1
  · funext k; exact congrArg₂ (· + ·) (a_row m c t r k) (b_row m c t r k)
  · funext k; exact s_row m c t r k
  · funext k; exact g_row m c t k
  · funext k; exact y_row m c t r k
  · funext j; exact wo_row m c t j k

/-- A point's block of the result. -/
theorem block_eq (c : Dev nD) (t : Fin cfg0.N) (r : Fin 512) (k : Fin 1024) :
    out0_13 (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r k)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (ix2 (rowOf t r) k) := by
  refine (out_apply (grid0.coords t) _ _ _ _ _ _ _ _ _ _ _ _ _ (by rw [coord]; exact lt64 t) r k).trans ?_
  unfold result
  refine congrArg₂ (fun p q => nrm p q k) (funext fun j => ?_) (funext fun j => ?_)
  · exact row_eq m c t r j
  · exact fg_row m c t j

/-- The result array. -/
theorem final (c : Dev nD) : (dats m 0 c).arrAt 13 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 13 _ (by decide +kernel) fun t hf y => ?_
  have e := (idxRow t).2.2.2.2.2.2.2.2
  blk_simp
  rw [after0_13]
  idx_vars y
  have hE : (win0_13.blk t).view.emb (ix2 y0 y1) = (ix2 (rowOf t y0) y1 : S32768x1024.Idx) := by
    blk_ext [e, rowOf]
  rw [hE]
  exact block_eq m c t y0 y1

end Cert.Kernel4Ideal.Final

end
-- ==== Proof.OutRef.lean ====
/-
  The output stage's reference as a whole-array function of its arguments at the ideal values: the same function the
  kernel's result array holds.
-/
module

public import proofs.«01_k».proof.Proof.Out
public import proofs.«01_k».proof.Proof.Gen.Reference4Ideal.Read
public import Idealize.ShloMosaic.Lib.Pipeline.Value
public import Idealize.ShloMosaic.Lib.KernelVsHost

@[expose] public section

set_option maxRecDepth 16384

noncomputable section

open Idealize.ShloMosaic Idealize.ShloMosaic.TcCoe Idealize.SL.Sem

namespace Cert.Reference4Ideal.Ref

open Cert.Reference4Ideal Cert.Reference4Ideal.Gen Cert.Reference4Ideal.Read Cert.Proj Cert.Outp

variable (x0 : (⟨S32768x1024, .f32⟩ : BufTy).Contents (Elt Ideal)) (x1 x2 x3 x4 x5 : (⟨S32768x1024, .bf16⟩ : BufTy).Contents (Elt Ideal))
  (x6 : (⟨S1x256, .f32⟩ : BufTy).Contents (Elt Ideal)) (x7 : (⟨S1x3x1024, .f32⟩ : BufTy).Contents (Elt Ideal))
  (x8 : (⟨S1x1024, .f32⟩ : BufTy).Contents (Elt Ideal)) (x9 : (⟨S1x2048x1024, .f32⟩ : BufTy).Contents (Elt Ideal))
  (x10 : (⟨S1024, .f32⟩ : BufTy).Contents (Elt Ideal))

/-- Two index tuples of rank two with the same coordinates. -/
theorem idx2 {a b : Nat} {i j : (⟨2, ![a, b]⟩ : Shape).Idx} (h0 : (i 0).val = (j 0).val) (h1 : (i 1).val = (j 1).val) : i = j :=
  funext fun d => match d with
    | ⟨0, _⟩ => Fin.ext h0
    | ⟨1, _⟩ => Fin.ext h1

/-- The same of rank three. -/
theorem idx3 {a b c : Nat} {i j : (⟨3, ![a, b, c]⟩ : Shape).Idx} (h0 : (i 0).val = (j 0).val) (h1 : (i 1).val = (j 1).val)
    (h2 : (i 2).val = (j 2).val) : i = j :=
  funext fun d => match d with
    | ⟨0, _⟩ => Fin.ext h0
    | ⟨1, _⟩ => Fin.ext h1
    | ⟨2, _⟩ => Fin.ext h2

/-- The two directions' sum, head by head. -/
theorem v3_eq (i : S32768x4x256.Idx) (R : Fin 32768) (h : Fin 4) (k : Fin 256) (e0 : (i 0).val = R.val) (e1 : (i 1).val = h.val)
    (e2 : (i 2).val = k.val) :
    val_main_v3 (F := Ideal) x1 x2 i = part (fun k => x1 (ix2 R k) + x2 (ix2 R k)) h k := by
  rw [val_main_v3_apply, show idx_main_v3 i = (ix2 R ⟨256 * h.val + k.val, by omega⟩ : S32768x1024.Idx) from
    idx2 (by show (((i 0).val * 4 + (i 1).val) * 256 + (i 2).val) / 1024 = R.val; omega)
      (by show (((i 0).val * 4 + (i 1).val) * 256 + (i 2).val) % 1024 = 256 * h.val + k.val; omega)]
  rfl

/-- A head normalized and scaled. -/
theorem v17_eq (i : S32768x4x256.Idx) (R : Fin 32768) (h : Fin 4) (k : Fin 256) (e0 : (i 0).val = R.val) (e1 : (i 1).val = h.val)
    (e2 : (i 2).val = k.val) (s : Fin 256 → EReal) :
    val_main_v17 (F := Ideal) x1 x2 x6 i * s k = head (part (fun k => x1 (ix2 R k) + x2 (ix2 R k)) h) (fun k => x6 (ix2 0 k)) s k := by
  rw [val_main_v17_apply, val_main_v13_apply, val_main_v12_apply, val_main_v11_apply, val_main_v10_apply, val_main_v8_apply,
    val_main_v6_apply, val_main_v5_apply, val_main_v7_apply, val_main_v9_apply, val_main_v16_apply, val_main_v15_apply, val_main_v14_apply,
    v3_eq x1 x2 i R h k e0 e1 e2]
  have e : ∀ j, val_main_v4 (F := Ideal) x1 x2 (idx_main_v5 (idx_main_v6 (idx_main_v12 i)) j)
      = part (fun k => x1 (ix2 R k) + x2 (ix2 R k)) h j * part (fun k => x1 (ix2 R k) + x2 (ix2 R k)) h j := by
    intro j
    rw [val_main_v4_apply, v3_eq x1 x2 (idx_main_v5 (idx_main_v6 (idx_main_v12 i)) j) R h j e0 e1 rfl]
    rfl
  rw [Finset.sum_congr rfl fun j _ => e j, show idx_main_v14 (idx_main_v15 (idx_main_v16 i)) = (ix2 0 k : S1x256.Idx) from
      idx2 rfl (by show (i 2).val % 256 = k.val; omega),
    show (val_main_cst (F := Ideal)) (Shape.Idx.first h_S_) = (0 : EReal) from Ideal.ofBits_zero_f32, zero_add]
  rfl

/-- The attention's branch at head `h`, entry `k` of the head. -/
theorem v20_eq (R : Fin 32768) (h : Fin 4) (k : Fin 256) :
    val_main_v20 (F := Ideal) x1 x2 x3 x6 (ix2 R ⟨256 * h.val + k.val, by omega⟩)
      = head (part (fun k => x1 (ix2 R k) + x2 (ix2 R k)) h) (fun k => x6 (ix2 0 k)) (part (fun k => x3 (ix2 R k)) h) k := by
  rw [val_main_v20_apply, val_main_v18_apply, val_main_v19_apply]
  refine Eq.trans ?_ (v17_eq x1 x2 x6 (idx_main_v18 (ix2 R ⟨256 * h.val + k.val, by omega⟩)) R h k
    (by show (R.val * 1024 + (256 * h.val + k.val)) / 1024 = R.val; omega)
    (by show (R.val * 1024 + (256 * h.val + k.val)) / 256 % 4 = h.val; omega)
    (by show (R.val * 1024 + (256 * h.val + k.val)) % 256 = k.val; omega) (part (fun k => x3 (ix2 R k)) h))
  rfl

/-- The convolution's input, one sequence per leading index. -/
theorem v22_eq (j : S8x4096x1024.Idx) (R : Fin 32768) (hR : R.val = (j 0).val * 4096 + (j 1).val) :
    val_main_v22 (F := Ideal) x4 j = x4 (ix2 R (j 2)) := by
  have h0 : (j 0).val < 8 := (j 0).isLt
  have h1 : (j 1).val < 4096 := (j 1).isLt
  have h2 : (j 2).val < 1024 := (j 2).isLt
  rw [val_main_v22_apply, val_main_v21_apply, show idx_main_v22 j = (ix2 R (j 2) : S32768x1024.Idx) from
    idx2 (by show (((j 0).val * 4096 + (j 1).val) * 1024 + (j 2).val) / 1024 = R.val; omega)
      (by show (((j 0).val * 4096 + (j 1).val) * 1024 + (j 2).val) % 1024 = (j 2).val; omega)]
  rfl

/-- The padded input at a row of the sequence itself. -/
theorem v23_in (i : S8x4098x1024.Idx) (j : S8x4096x1024.Idx) (h0 : (i 0).val = (j 0).val) (h1 : (i 1).val = (j 1).val + 1)
    (h2 : (i 2).val = (j 2).val) : val_main_v23 (F := Ideal) x4 i = val_main_v22 (F := Ideal) x4 j := by
  unfold val_main_v23
  refine pad_apply_of_inside _ _ _ _ _ _ _ i j fun a => ?_
  match a with
  | ⟨0, _⟩ => show (i 0).val = 0 + (j 0).val * 1; omega
  | ⟨1, _⟩ => show (i 1).val = 1 + (j 1).val * 1; omega
  | ⟨2, _⟩ => show (i 2).val = 0 + (j 2).val * 1; omega

/-- The padded input is zero before the first row and after the last. -/
theorem v23_out (i : S8x4098x1024.Idx) (h : (i 1).val = 0 ∨ (i 1).val = 4097) : val_main_v23 (F := Ideal) x4 i = 0 := by
  unfold val_main_v23
  rw [pad_apply_of_not_inside _ _ _ _ _ _ _ i 1 (by
    show ¬(1 ≤ (i 1).val ∧ ((i 1).val - 1) % 1 = 0 ∧ ((i 1).val - 1) / 1 < 4096)
    omega), val_main_call0_v0_apply, val_main_c_apply]
  show (((0#32 : BitVec 32).toInt : ℝ) : EReal) = 0
  simp

/-- The row before in its sequence. -/
theorem v26_eq (j : S8x4096x1024.Idx) (R : Fin 32768) (hR : R.val = (j 0).val * 4096 + (j 1).val) :
    val_main_v26 (F := Ideal) x4 j = prev x4 R (j 2) := by
  have h0 : (j 0).val < 8 := (j 0).isLt
  have h1 : (j 1).val < 4096 := (j 1).isLt
  rw [val_main_v26_apply]
  unfold prev
  by_cases h : R.val % 4096 = 0
  · rw [dif_pos h, v23_out x4 _ (Or.inl (by show (j 1).val = 0; omega))]
  · rw [dif_neg h, v23_in x4 _ (fun a => match a with
      | ⟨0, _⟩ => j 0
      | ⟨1, _⟩ => (⟨(j 1).val - 1, by omega⟩ : Fin 4096)
      | ⟨2, _⟩ => j 2) rfl (by show (j 1).val = (j 1).val - 1 + 1; omega) rfl,
      v22_eq x4 _ ⟨R.val - 1, by omega⟩ (by show R.val - 1 = (j 0).val * 4096 + ((j 1).val - 1); omega)]

/-- The row after in its sequence. -/
theorem v39_eq (j : S8x4096x1024.Idx) (R : Fin 32768) (hR : R.val = (j 0).val * 4096 + (j 1).val) :
    val_main_v39 (F := Ideal) x4 j = next x4 R (j 2) := by
  have h0 : (j 0).val < 8 := (j 0).isLt
  have h1 : (j 1).val < 4096 := (j 1).isLt
  rw [val_main_v39_apply]
  unfold next
  by_cases h : R.val % 4096 = 4095
  · rw [dif_pos h, v23_out x4 _ (Or.inr (by show 2 + (j 1).val = 4097; omega))]
  · rw [dif_neg h, v23_in x4 _ (fun a => match a with
      | ⟨0, _⟩ => j 0
      | ⟨1, _⟩ => (⟨(j 1).val + 1, by omega⟩ : Fin 4096)
      | ⟨2, _⟩ => j 2) rfl (by show 2 + (j 1).val = (j 1).val + 1 + 1; omega) rfl,
      v22_eq x4 _ ⟨R.val + 1, by omega⟩ (by show R.val + 1 = (j 0).val * 4096 + ((j 1).val + 1); omega)]

/-- The gated convolution at row `R`. -/
theorem v50_eq (R : Fin 32768) (e : Fin 1024) :
    val_main_v50 (F := Ideal) x4 x5 x7 x8 (ix2 R e) = branch x4 x5 x7 x8 R e := by
  rw [val_main_v50_apply, val_main_v48_apply, val_main_v49_apply]
  obtain ⟨j, hj⟩ : ∃ j, j = idx_main_v49 (ix2 R e) := ⟨_, rfl⟩
  have hR : R.val = (j 0).val * 4096 + (j 1).val := by
    subst hj
    show R.val = (R.val * 1024 + e.val) / 4194304 * 4096 + (R.val * 1024 + e.val) / 1024 % 4096
    omega
  have h2 : j 2 = e := by
    subst hj
    exact Fin.ext (by show (R.val * 1024 + e.val) % 1024 = e.val; omega)
  have he : (j 2).val < 1024 := (j 2).isLt
  rw [← hj]
  have ei : val_main_v32 (F := Ideal) x4 j = x4 (ix2 R (j 2)) := by
    rw [val_main_v32_apply, v23_in x4 _ j rfl (by show 1 + (j 1).val = (j 1).val + 1; omega) rfl, v22_eq x4 j R hR]
  rw [val_main_v47_apply, val_main_v43_apply, val_main_v36_apply, val_main_v29_apply, val_main_v35_apply, val_main_v42_apply,
    v26_eq x4 j R hR, v39_eq x4 j R hR, ei,
    val_main_v28_apply, val_main_v27_apply, val_main_v25_apply, val_main_v24_apply,
    val_main_v34_apply, val_main_v33_apply, val_main_v31_apply, val_main_v30_apply,
    val_main_v41_apply, val_main_v40_apply, val_main_v38_apply, val_main_v37_apply,
    val_main_v46_apply, val_main_v45_apply, val_main_v44_apply,
    show idx_main_v24 (idx_main_v25 (idx_main_v27 (idx_main_v28 j))) = (ix3 0 0 (j 2) : S1x3x1024.Idx) from
      idx3 rfl rfl (Nat.mod_eq_of_lt he),
    show idx_main_v30 (idx_main_v31 (idx_main_v33 (idx_main_v34 j))) = (ix3 0 1 (j 2) : S1x3x1024.Idx) from
      idx3 rfl rfl (Nat.mod_eq_of_lt he),
    show idx_main_v37 (idx_main_v38 (idx_main_v40 (idx_main_v41 j))) = (ix3 0 2 (j 2) : S1x3x1024.Idx) from
      idx3 rfl rfl (Nat.mod_eq_of_lt he),
    show idx_main_v44 (idx_main_v45 (idx_main_v46 j)) = (ix2 0 (j 2) : S1x1024.Idx) from
      idx2 rfl (Nat.mod_eq_of_lt he), h2]
  rfl

/-- The two branches side by side: the attention's columns. -/
theorem v51_left (R : Fin 32768) (k : Fin 1024) :
    val_main_v51 (F := Ideal) x1 x2 x3 x4 x5 x6 x7 x8 (ix2 R ⟨k.val, by omega⟩) = val_main_v20 (F := Ideal) x1 x2 x3 x6 (ix2 R k) := by
  unfold val_main_v51
  exact concatenate_pair_apply_left (s₁ := S32768x1024) (s₂ := S32768x1024) (t := S32768x2048) 1 _ _ _ _ rfl (ix2 R k) (fun b => match b with
    | ⟨0, _⟩ => rfl
    | ⟨1, _⟩ => rfl)

/-- The two branches side by side: the convolution's columns. -/
theorem v51_right (R : Fin 32768) (k : Fin 1024) :
    val_main_v51 (F := Ideal) x1 x2 x3 x4 x5 x6 x7 x8 (ix2 R ⟨1024 + k.val, by omega⟩) = val_main_v50 (F := Ideal) x4 x5 x7 x8 (ix2 R k) := by
  unfold val_main_v51
  exact concatenate_pair_apply_right (s₁ := S32768x1024) (s₂ := S32768x1024) (t := S32768x2048) 1 _ _ _ _ rfl rfl (ix2 R k)
    (fun b hb => match b with
      | ⟨0, _⟩ => rfl
      | ⟨1, _⟩ => absurd rfl hb) (by show k.val + 1024 = 1024 + k.val; omega)

/-- A sum over the weight's rows: the four heads' and the convolution's. -/
theorem sum_rows (f : Fin 2048 → EReal) :
    (∑ k, f k) = (∑ h : Fin 4, ∑ k : Fin 256, f ⟨256 * h.val + k.val, by omega⟩) + ∑ k : Fin 1024, f ⟨1024 + k.val, by omega⟩ := by
  rw [show (∑ k, f k) = (∑ k : Fin 1024, f ⟨k.val, by omega⟩) + ∑ k : Fin 1024, f ⟨1024 + k.val, by omega⟩ from
    Fin.sum_univ_add (a := 1024) (b := 1024) f]
  refine congrArg (· + _) ?_
  rw [← Fintype.sum_prod_type' (f := fun (h : Fin 4) (k : Fin 256) => f ⟨256 * h.val + k.val, by omega⟩)]
  refine (Fintype.sum_equiv (finProdFinEquiv (m := 4) (n := 256)) _ _ fun p => congrArg f (Fin.ext ?_)).symm
  show 256 * p.1.val + p.2.val = p.2.val + 256 * p.1.val
  omega

/-- The residual row with both branches added. -/
theorem v54_eq (R : Fin 32768) (e : Fin 1024) :
    val_main_v54 (F := Ideal) x0 x1 x2 x3 x4 x5 x6 x7 x8 x9 (ix2 R e) = row x0 x1 x2 x3 x4 x5 x6 x7 x8 x9 R e := by
  have hw : ∀ k : Fin 2048, val_main_v52 (F := Ideal) x9 (ridx_main_v53 (ix2 R e) k) = x9 (ix3 0 k e) := by
    intro k
    rw [val_main_v52_apply, show idx_main_v52 (ridx_main_v53 (ix2 R e) k) = (ix3 0 k e : S1x2048x1024.Idx) from
      idx3 rfl (by show (k.val * 1024 + e.val) / 1024 % 2048 = k.val; omega) (by show (k.val * 1024 + e.val) % 1024 = e.val; omega)]
  have hl : ∀ k : Fin 2048, lidx_main_v53 (ix2 R e) k = (ix2 R k : S32768x2048.Idx) := fun k => idx2 rfl rfl
  rw [val_main_v54_apply, val_main_v53_apply]
  simp only [hw, hl]
  rw [sum_rows]
  unfold row mix
  refine congrArg₂ (· + ·) rfl (congrArg₂ (· + ·) (Finset.sum_congr rfl fun h _ => Finset.sum_congr rfl fun k _ => ?_)
    (Finset.sum_congr rfl fun k _ => ?_))
  · rw [← v20_eq]
    exact congrArg (· * _) (v51_left x1 x2 x3 x4 x5 x6 x7 x8 R ⟨256 * h.val + k.val, by omega⟩)
  · rw [v51_right, v50_eq]

/-- The reference's result. -/
theorem ref_eq : val_main_v67 (F := Ideal) x0 x1 x2 x3 x4 x5 x6 x7 x8 x9 x10 = result x0 x1 x2 x3 x4 x5 x6 x7 x8 x9 x10 := by
  funext i
  obtain ⟨R, k, rfl⟩ : ∃ (R : Fin 32768) (k : Fin 1024), i = ix2 R k := ⟨i 0, i 1, idx2 rfl rfl⟩
  rw [val_main_v67_apply, val_main_v64_apply, val_main_v63_apply, val_main_v62_apply, val_main_v61_apply, val_main_v59_apply,
    val_main_v57_apply, val_main_v56_apply, val_main_v58_apply, val_main_v60_apply, val_main_v66_apply, val_main_v65_apply, v54_eq]
  have e : ∀ j, val_main_v55 (F := Ideal) x0 x1 x2 x3 x4 x5 x6 x7 x8 x9 (idx_main_v56 (idx_main_v57 (idx_main_v63 (ix2 R k))) j)
      = row x0 x1 x2 x3 x4 x5 x6 x7 x8 x9 R j * row x0 x1 x2 x3 x4 x5 x6 x7 x8 x9 R j := by
    intro j
    rw [show idx_main_v56 (idx_main_v57 (idx_main_v63 (ix2 R k))) j = (ix2 R j : S32768x1024.Idx) from idx2 rfl rfl,
      val_main_v55_apply, v54_eq]
    rfl
  rw [Finset.sum_congr rfl fun j _ => e j, show idx_main_v65 (idx_main_v66 (ix2 R k)) = (ix1 k : S1024.Idx) from
      funext fun d => match d with | ⟨0, _⟩ => rfl,
    show (val_main_cst_2 (F := Ideal)) (Shape.Idx.first h_S_) = (0 : EReal) from Ideal.ofBits_zero_f32, zero_add]
  rfl

end Cert.Reference4Ideal.Ref

end
-- ==== Proof.lean ====
/-
  The certificate of the combined input projection, of the call that regroups its weight, of the gated linear attention, and
  of the output stage: for each, three frames, the unchanged rewriting, and the value claim.
  The projection's six result arrays (Proof/Final.lean) and its reference's six
  results (Proof/Ref.lean) are the same six functions of the arguments (Proof/Spec.lean); the regrouped weight and its
  reference's result are the same function of the weight (Proof/Regroup.lean); the attention's result (Proof/GlaFinal.lean) and
  its reference's (Proof/GlaRef.lean) are the same function of the six arguments (Proof/Gla.lean);
  the output stage's result (Proof/OutFinal.lean) and its reference's (Proof/OutRef.lean) are the same function of the eleven
  arguments (Proof/Out.lean).
-/
module

public import proofs.«01_k».proof.Defs
public import proofs.«01_k».proof.Proof.Final
public import proofs.«01_k».proof.Proof.Ref
public import proofs.«01_k».proof.Proof.Regroup
public import proofs.«01_k».proof.Proof.GlaFinal
public import proofs.«01_k».proof.Proof.GlaRef
public import proofs.«01_k».proof.Proof.OutFinal
public import proofs.«01_k».proof.Proof.OutRef
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Step
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.ShloMosaic.TcCoe Idealize.SL.Sem Cert.Proj

/-- The kernel terminates without a fault, keeps its arguments and leaves every counter at zero, on the machine's floats. -/
theorem frame_kernel : Cert.quiescent_Kernel := fun m ρ _ => Cert.Kernel.Gen.frame m ρ

/-- The same of the kernel at the ideal values. -/
theorem frame_kernel_ideal : Cert.quiescent_KernelIdeal := fun m ρ _ => Cert.KernelIdeal.Gen.frame m ρ

/-- The same of the reference, which has no counters. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The kernel's ideal program is the printed program itself. -/
theorem preserves : Cert.preserves_Kernel_KernelIdeal := trivial

/-- The kernel's run with its six results named as functions of its arguments. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
      r.2.mem ((c.tc : Thread Cert.KernelIdeal.nD Cert.KernelIdeal.τ).loc Cert.KernelIdeal.main_v0_0)
        = outQ (m (c.tc.loc Cert.KernelIdeal.main_arg0)) (m (c.tc.loc Cert.KernelIdeal.main_arg1)) (m (c.tc.loc Cert.KernelIdeal.main_arg2))
      ∧ r.2.mem ((c.tc : Thread Cert.KernelIdeal.nD Cert.KernelIdeal.τ).loc Cert.KernelIdeal.main_v0_1)
        = outK (m (c.tc.loc Cert.KernelIdeal.main_arg0)) (m (c.tc.loc Cert.KernelIdeal.main_arg1)) (m (c.tc.loc Cert.KernelIdeal.main_arg2))
      ∧ r.2.mem ((c.tc : Thread Cert.KernelIdeal.nD Cert.KernelIdeal.τ).loc Cert.KernelIdeal.main_v0_2)
        = outV (m (c.tc.loc Cert.KernelIdeal.main_arg0)) (m (c.tc.loc Cert.KernelIdeal.main_arg1)) (m (c.tc.loc Cert.KernelIdeal.main_arg2))
      ∧ r.2.mem ((c.tc : Thread Cert.KernelIdeal.nD Cert.KernelIdeal.τ).loc Cert.KernelIdeal.main_v0_3)
        = outZ (m (c.tc.loc Cert.KernelIdeal.main_arg0)) (m (c.tc.loc Cert.KernelIdeal.main_arg1)) (m (c.tc.loc Cert.KernelIdeal.main_arg2))
      ∧ r.2.mem ((c.tc : Thread Cert.KernelIdeal.nD Cert.KernelIdeal.τ).loc Cert.KernelIdeal.main_v0_4)
        = outY (m (c.tc.loc Cert.KernelIdeal.main_arg0)) (m (c.tc.loc Cert.KernelIdeal.main_arg1)) (m (c.tc.loc Cert.KernelIdeal.main_arg2))
          (m (c.tc.loc Cert.KernelIdeal.main_arg3)) (m (c.tc.loc Cert.KernelIdeal.main_arg4))
      ∧ r.2.mem ((c.tc : Thread Cert.KernelIdeal.nD Cert.KernelIdeal.τ).loc Cert.KernelIdeal.main_v0_5)
        = outL (m (c.tc.loc Cert.KernelIdeal.main_arg0)) (m (c.tc.loc Cert.KernelIdeal.main_arg1)) (m (c.tc.loc Cert.KernelIdeal.main_arg2))
      ∧ r.2.mem ((c.tc : Thread Cert.KernelIdeal.nD Cert.KernelIdeal.τ).loc Cert.KernelIdeal.main_arg0) = m (c.tc.loc Cert.KernelIdeal.main_arg0)
      ∧ r.2.mem ((c.tc : Thread Cert.KernelIdeal.nD Cert.KernelIdeal.τ).loc Cert.KernelIdeal.main_arg1) = m (c.tc.loc Cert.KernelIdeal.main_arg1)
      ∧ r.2.mem ((c.tc : Thread Cert.KernelIdeal.nD Cert.KernelIdeal.τ).loc Cert.KernelIdeal.main_arg2) = m (c.tc.loc Cert.KernelIdeal.main_arg2)
      ∧ r.2.mem ((c.tc : Thread Cert.KernelIdeal.nD Cert.KernelIdeal.τ).loc Cert.KernelIdeal.main_arg3) = m (c.tc.loc Cert.KernelIdeal.main_arg3)
      ∧ r.2.mem ((c.tc : Thread Cert.KernelIdeal.nD Cert.KernelIdeal.τ).loc Cert.KernelIdeal.main_arg4) = m (c.tc.loc Cert.KernelIdeal.main_arg4) :=
  (θ_run Cert.KernelIdeal.defs _ _).mono (fun r h c => by
    obtain ⟨h0, h1, h2, h3, h4, h5, hk⟩ := h c
    exact ⟨h0.trans (Cert.KernelIdeal.Final.final7 m c), h1.trans (Cert.KernelIdeal.Final.final8 m c),
      h2.trans (Cert.KernelIdeal.Final.final9 m c), h3.trans (Cert.KernelIdeal.Final.final10 m c),
      h4.trans (Cert.KernelIdeal.Final.final11 m c), h5.trans (Cert.KernelIdeal.Final.final12 m c), hk⟩)
    (Cert.KernelIdeal.Value.run_blocks m ρ)

/-- From arguments that agree, kernel and reference end with equal results at the ideal values. -/
theorem algebraic : Cert.algebraic_KernelIdeal_ReferenceIdeal := by
  intro m ρ m' ρ' _ hag
  refine ⟨_, _, _, _, _, _, run_kernel m ρ, ?_⟩
  refine (θ_run Cert.ReferenceIdeal.defs _ _).mono (fun r h c => ?_) (Cert.ReferenceIdeal.Value.run (F := Ideal) m' ρ')
  obtain ⟨h0, h1, h2, h3, h4, h5, hk⟩ := h c
  obtain ⟨a0, a1, a2, a3, a4⟩ := hag c
  refine ⟨h0.trans ((Cert.ReferenceIdeal.Read.val_main_v60_eq _ _ _).trans ?_), h1.trans ((Cert.ReferenceIdeal.Read.val_main_v61_eq _ _ _).trans ?_),
    h2.trans ((Cert.ReferenceIdeal.Read.val_main_v62_eq _ _ _).trans ?_), h3.trans ((Cert.ReferenceIdeal.Read.val_main_v64_eq _ _ _).trans ?_),
    h4.trans ((Cert.ReferenceIdeal.Read.val_main_v65_eq m' c).trans ?_), h5.trans ((Cert.ReferenceIdeal.Read.val_main_v68_eq _ _ _).trans ?_), hk⟩
  · rw [Cert.ReferenceIdeal.Ref.outQ_eq, a0, a1, a2]
  · rw [Cert.ReferenceIdeal.Ref.outK_eq, a0, a1, a2]
  · rw [Cert.ReferenceIdeal.Ref.outV_eq, a0, a1, a2]
  · rw [Cert.ReferenceIdeal.Ref.outZ_eq, a0, a1, a2]
  · rw [Cert.ReferenceIdeal.Ref.outY_eq, a0, a1, a2, a3, a4]
  · rw [Cert.ReferenceIdeal.Ref.outL_eq, a0, a1, a2]

/-- The regrouping kernel terminates without a fault, keeps its argument and leaves every counter at zero, on the
    machine's floats. -/
theorem frame_kernel2 : Cert.quiescent_Kernel2 := fun m ρ _ => Cert.Kernel2.Gen.frame m ρ

/-- The same of it at the ideal values. -/
theorem frame_kernel2_ideal : Cert.quiescent_Kernel2Ideal := fun m ρ _ => Cert.Kernel2Ideal.Gen.frame m ρ

/-- The same of its reference, which has no counters. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The regrouping kernel's ideal program is the printed program itself. -/
theorem preserves2 : Cert.preserves_Kernel2_Kernel2Ideal := trivial

/-- The regrouping kernel's run with its result named as a function of the weight. -/
theorem run_kernel2 (m : (ℓ : Loc Cert.Kernel2Ideal.nD Cert.Kernel2Ideal.τ Cert.Kernel2Ideal.sig) → Buf (Elt Ideal) ℓ)
    (ρ : Dev Cert.Kernel2Ideal.nD → PrngReg) :
    θ_run (Cert.Kernel2Ideal.defs (F := Ideal)) (onTc (τ := Cert.Kernel2Ideal.τ) (Cert.Kernel2Ideal.main (F := Ideal)))
      ⟨m, fun _ => 0, ρ⟩ fun r => ∀ c : Dev Cert.Kernel2Ideal.nD,
      r.2.mem ((c.tc : Thread Cert.Kernel2Ideal.nD Cert.Kernel2Ideal.τ).loc Cert.Kernel2Ideal.main_v1)
        = Cert.Regroup.groupedArr (m (c.tc.loc Cert.Kernel2Ideal.main_arg0))
      ∧ r.2.mem ((c.tc : Thread Cert.Kernel2Ideal.nD Cert.Kernel2Ideal.τ).loc Cert.Kernel2Ideal.main_arg0) = m (c.tc.loc Cert.Kernel2Ideal.main_arg0) :=
  (θ_run Cert.Kernel2Ideal.defs _ _).mono (fun r h c => ⟨(h c).1.trans (Cert.Kernel2Ideal.Regroup.final2 m c), (h c).2⟩)
    (Cert.Kernel2Ideal.Value.run_blocks m ρ)

/-- From equal weights, the regrouping kernel and its reference end with equal results at the ideal values. -/
theorem algebraic2 : Cert.algebraic_Kernel2Ideal_Reference2Ideal := by
  intro m ρ m' ρ' _ hag
  refine ⟨_, run_kernel2 m ρ, ?_⟩
  refine (θ_run Cert.Reference2Ideal.defs _ _).mono (fun r h c => ?_) (Cert.Reference2Ideal.Value.run (F := Ideal) m' ρ')
  obtain ⟨h0, hk⟩ := h c
  refine ⟨h0.trans ((Cert.Reference2Ideal.Read.val_main_v13_eq _).trans ?_), hk⟩
  rw [Cert.Reference2Ideal.Regroup.ref_eq, hag c]

/-- The attention kernel terminates without a fault, keeps its arguments and leaves every counter at zero, on the machine's
    floats. -/
theorem frame_kernel3 : Cert.quiescent_Kernel3 := fun m ρ _ => Cert.Kernel3.Gen.frame m ρ

/-- The same of it at the ideal values. -/
theorem frame_kernel3_ideal : Cert.quiescent_Kernel3Ideal := fun m ρ _ => Cert.Kernel3Ideal.Gen.frame m ρ

/-- The same of its reference, which has no counters. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The attention kernel's ideal program is the printed program itself. -/
theorem preserves3 : Cert.preserves_Kernel3_Kernel3Ideal := trivial

/-- The attention kernel's run with its result named as a function of its arguments. -/
theorem run_kernel3 (m : (ℓ : Loc Cert.Kernel3Ideal.nD Cert.Kernel3Ideal.τ Cert.Kernel3Ideal.sig) → Buf (Elt Ideal) ℓ)
    (ρ : Dev Cert.Kernel3Ideal.nD → PrngReg) :
    θ_run (Cert.Kernel3Ideal.defs (F := Ideal)) (onTc (τ := Cert.Kernel3Ideal.τ) (Cert.Kernel3Ideal.main (F := Ideal)))
      ⟨m, fun _ => 0, ρ⟩ fun r => ∀ c : Dev Cert.Kernel3Ideal.nD,
      r.2.mem ((c.tc : Thread Cert.Kernel3Ideal.nD Cert.Kernel3Ideal.τ).loc Cert.Kernel3Ideal.main_v6)
        = Cert.Gla.result (m (c.tc.loc Cert.Kernel3Ideal.main_arg0)) (m (c.tc.loc Cert.Kernel3Ideal.main_arg1)) (m (c.tc.loc Cert.Kernel3Ideal.main_arg2))
          (m (c.tc.loc Cert.Kernel3Ideal.main_arg3)) (m (c.tc.loc Cert.Kernel3Ideal.main_arg4)) (m (c.tc.loc Cert.Kernel3Ideal.main_arg5))
      ∧ r.2.mem ((c.tc : Thread Cert.Kernel3Ideal.nD Cert.Kernel3Ideal.τ).loc Cert.Kernel3Ideal.main_arg0) = m (c.tc.loc Cert.Kernel3Ideal.main_arg0)
      ∧ r.2.mem ((c.tc : Thread Cert.Kernel3Ideal.nD Cert.Kernel3Ideal.τ).loc Cert.Kernel3Ideal.main_arg1) = m (c.tc.loc Cert.Kernel3Ideal.main_arg1)
      ∧ r.2.mem ((c.tc : Thread Cert.Kernel3Ideal.nD Cert.Kernel3Ideal.τ).loc Cert.Kernel3Ideal.main_arg2) = m (c.tc.loc Cert.Kernel3Ideal.main_arg2)
      ∧ r.2.mem ((c.tc : Thread Cert.Kernel3Ideal.nD Cert.Kernel3Ideal.τ).loc Cert.Kernel3Ideal.main_arg3) = m (c.tc.loc Cert.Kernel3Ideal.main_arg3)
      ∧ r.2.mem ((c.tc : Thread Cert.Kernel3Ideal.nD Cert.Kernel3Ideal.τ).loc Cert.Kernel3Ideal.main_arg4) = m (c.tc.loc Cert.Kernel3Ideal.main_arg4)
      ∧ r.2.mem ((c.tc : Thread Cert.Kernel3Ideal.nD Cert.Kernel3Ideal.τ).loc Cert.Kernel3Ideal.main_arg5) = m (c.tc.loc Cert.Kernel3Ideal.main_arg5) :=
  (θ_run Cert.Kernel3Ideal.defs _ _).mono (fun r h c => ⟨(h c).1.trans (Cert.Kernel3Ideal.Final.final m c), (h c).2⟩)
    (Cert.Kernel3Ideal.Value.run_blocks m ρ)

/-- From arguments that agree, the attention kernel and its reference end with equal results at the ideal values. -/
theorem algebraic3 : Cert.algebraic_Kernel3Ideal_Reference3Ideal := by
  intro m ρ m' ρ' _ hag
  refine ⟨_, run_kernel3 m ρ, ?_⟩
  refine (θ_run Cert.Reference3Ideal.defs _ _).mono (fun r h c => ?_) (Cert.Reference3Ideal.Value.run (F := Ideal) m' ρ')
  obtain ⟨h0, hk⟩ := h c
  obtain ⟨a0, a1, a2, a3, a4, a5⟩ := hag c
  refine ⟨h0.trans ((Cert.Reference3Ideal.Loop.final m' c).trans ?_), hk⟩
  rw [a0, a1, a2, a3, a4, a5]

/-- The output stage terminates without a fault, keeps its arguments and leaves every counter at zero, on the machine's
    floats. -/
theorem frame_kernel4 : Cert.quiescent_Kernel4 := fun m ρ _ => Cert.Kernel4.Gen.frame m ρ

/-- The same of it at the ideal values. -/
theorem frame_kernel4_ideal : Cert.quiescent_Kernel4Ideal := fun m ρ _ => Cert.Kernel4Ideal.Gen.frame m ρ

/-- The same of its reference, which has no counters. -/
theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The output stage's ideal program is the printed program itself. -/
theorem preserves4 : Cert.preserves_Kernel4_Kernel4Ideal := trivial

/-- The output stage's run with its result named as a function of its arguments. -/
theorem run_kernel4 (m : (ℓ : Loc Cert.Kernel4Ideal.nD Cert.Kernel4Ideal.τ Cert.Kernel4Ideal.sig) → Buf (Elt Ideal) ℓ)
    (ρ : Dev Cert.Kernel4Ideal.nD → PrngReg) :
    θ_run (Cert.Kernel4Ideal.defs (F := Ideal)) (onTc (τ := Cert.Kernel4Ideal.τ) (Cert.Kernel4Ideal.main (F := Ideal)))
      ⟨m, fun _ => 0, ρ⟩ fun r => ∀ c : Dev Cert.Kernel4Ideal.nD,
      r.2.mem ((c.tc : Thread Cert.Kernel4Ideal.nD Cert.Kernel4Ideal.τ).loc Cert.Kernel4Ideal.main_v8)
        = Cert.Outp.result (m (c.tc.loc Cert.Kernel4Ideal.main_arg0)) (m (c.tc.loc Cert.Kernel4Ideal.main_arg1)) (m (c.tc.loc Cert.Kernel4Ideal.main_arg2))
          (m (c.tc.loc Cert.Kernel4Ideal.main_arg3)) (m (c.tc.loc Cert.Kernel4Ideal.main_arg4)) (m (c.tc.loc Cert.Kernel4Ideal.main_arg5))
          (m (c.tc.loc Cert.Kernel4Ideal.main_arg6)) (m (c.tc.loc Cert.Kernel4Ideal.main_arg7)) (m (c.tc.loc Cert.Kernel4Ideal.main_arg8))
          (m (c.tc.loc Cert.Kernel4Ideal.main_arg9)) (m (c.tc.loc Cert.Kernel4Ideal.main_arg10))
      ∧ r.2.mem ((c.tc : Thread Cert.Kernel4Ideal.nD Cert.Kernel4Ideal.τ).loc Cert.Kernel4Ideal.main_arg0) = m (c.tc.loc Cert.Kernel4Ideal.main_arg0)
      ∧ r.2.mem ((c.tc : Thread Cert.Kernel4Ideal.nD Cert.Kernel4Ideal.τ).loc Cert.Kernel4Ideal.main_arg1) = m (c.tc.loc Cert.Kernel4Ideal.main_arg1)
      ∧ r.2.mem ((c.tc : Thread Cert.Kernel4Ideal.nD Cert.Kernel4Ideal.τ).loc Cert.Kernel4Ideal.main_arg2) = m (c.tc.loc Cert.Kernel4Ideal.main_arg2)
      ∧ r.2.mem ((c.tc : Thread Cert.Kernel4Ideal.nD Cert.Kernel4Ideal.τ).loc Cert.Kernel4Ideal.main_arg3) = m (c.tc.loc Cert.Kernel4Ideal.main_arg3)
      ∧ r.2.mem ((c.tc : Thread Cert.Kernel4Ideal.nD Cert.Kernel4Ideal.τ).loc Cert.Kernel4Ideal.main_arg4) = m (c.tc.loc Cert.Kernel4Ideal.main_arg4)
      ∧ r.2.mem ((c.tc : Thread Cert.Kernel4Ideal.nD Cert.Kernel4Ideal.τ).loc Cert.Kernel4Ideal.main_arg5) = m (c.tc.loc Cert.Kernel4Ideal.main_arg5)
      ∧ r.2.mem ((c.tc : Thread Cert.Kernel4Ideal.nD Cert.Kernel4Ideal.τ).loc Cert.Kernel4Ideal.main_arg6) = m (c.tc.loc Cert.Kernel4Ideal.main_arg6)
      ∧ r.2.mem ((c.tc : Thread Cert.Kernel4Ideal.nD Cert.Kernel4Ideal.τ).loc Cert.Kernel4Ideal.main_arg7) = m (c.tc.loc Cert.Kernel4Ideal.main_arg7)
      ∧ r.2.mem ((c.tc : Thread Cert.Kernel4Ideal.nD Cert.Kernel4Ideal.τ).loc Cert.Kernel4Ideal.main_arg8) = m (c.tc.loc Cert.Kernel4Ideal.main_arg8)
      ∧ r.2.mem ((c.tc : Thread Cert.Kernel4Ideal.nD Cert.Kernel4Ideal.τ).loc Cert.Kernel4Ideal.main_arg9) = m (c.tc.loc Cert.Kernel4Ideal.main_arg9)
      ∧ r.2.mem ((c.tc : Thread Cert.Kernel4Ideal.nD Cert.Kernel4Ideal.τ).loc Cert.Kernel4Ideal.main_arg10) = m (c.tc.loc Cert.Kernel4Ideal.main_arg10) :=
  (θ_run Cert.Kernel4Ideal.defs _ _).mono (fun r h c => ⟨(h c).1.trans (Cert.Kernel4Ideal.Final.final m c), (h c).2⟩)
    (Cert.Kernel4Ideal.Value.run_blocks m ρ)

/-- From arguments that agree, the output stage and its reference end with equal results at the ideal values. -/
theorem algebraic4 : Cert.algebraic_Kernel4Ideal_Reference4Ideal := by
  intro m ρ m' ρ' _ hag
  refine ⟨_, run_kernel4 m ρ, ?_⟩
  refine (θ_run Cert.Reference4Ideal.defs _ _).mono (fun r h c => ?_) (Cert.Reference4Ideal.Value.run (F := Ideal) m' ρ')
  obtain ⟨h0, hk⟩ := h c
  obtain ⟨a0, a1, a2, a3, a4, a5, a6, a7, a8, a9, a10⟩ := hag c
  refine ⟨h0.trans ((Cert.Reference4Ideal.Read.val_main_v67_eq m' c).trans ?_), hk⟩
  rw [Cert.Reference4Ideal.Ref.ref_eq, a0, a1, a2, a3, a4, a5, a6, a7, a8, a9, a10]

/-- The whole claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    frame_kernel, frame_kernel_ideal, frame_reference, frame_kernel2, frame_kernel2_ideal, frame_reference2,
    frame_kernel3, frame_kernel3_ideal, frame_reference3,
    frame_kernel4, frame_kernel4_ideal, frame_reference4,
    preserves, algebraic, preserves2, algebraic2, preserves3, algebraic3, preserves4, algebraic4⟩

end Cert.Proof

end
